-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![512, 2048]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 512]⟩ ⟨2, ![2048, 512]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v16) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S256x512 : Shape := ⟨2, ![256, 512]⟩
abbrev S512x512 : Shape := ⟨2, ![512, 512]⟩
abbrev S2x8x64x256 : Shape := ⟨4, ![2, 8, 64, 256]⟩
abbrev S2x8 : Shape := ⟨2, ![2, 8]⟩
abbrev S_ : Shape := ⟨0, ![]⟩
abbrev S8x64x256 : Shape := ⟨3, ![8, 64, 256]⟩
abbrev S1x64x256 : Shape := ⟨3, ![1, 64, 256]⟩
abbrev S1x8x64x256 : Shape := ⟨4, ![1, 8, 64, 256]⟩
abbrev S1x1 : Shape := ⟨2, ![1, 1]⟩
abbrev S1x1x64x256 : Shape := ⟨4, ![1, 1, 64, 256]⟩
abbrev S64x256 : Shape := ⟨2, ![64, 256]⟩

abbrev nBuf : Space → Nat
  | .hbm => 3
  | .vmem => 6
  | .smem => 0
  | _ => 0

abbrev bufTy : (tb : Table) → Fin (tcTables nBuf tb) → BufTy
  | .hbm, ⟨0, _⟩ => ⟨S512x256, .bf16⟩
  | .hbm, ⟨1, _⟩ => ⟨S256x512, .bf16⟩
  | .hbm, ⟨2, _⟩ => ⟨S512x512, .bf16⟩
  | .local _ .vmem, ⟨0, _⟩ => ⟨S512x256, .bf16⟩
  | .local _ .vmem, ⟨1, _⟩ => ⟨S256x512, .bf16⟩
  | .local _ .vmem, ⟨2, _⟩ => ⟨S512x512, .bf16⟩
  | .local _ .vmem, ⟨3, _⟩ => ⟨S2x8x64x256, .bf16⟩
  | .local _ .vmem, ⟨4, _⟩ => ⟨S2x8x64x256, .bf16⟩
  | .local _ .vmem, ⟨5, _⟩ => ⟨S2x8x64x256, .bf16⟩
  | _, _ => ⟨S512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  (ofTc nBuf bufTy 1 67 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .ne v2 c0_i32
  let v5 : BitVec 32 := Scalar.extui v4
  let c0_i32_0 : BitVec 32 := 0#32
  let v6 : BitVec 1 := Scalar.cmpi .ne v5 c0_i32_0
  v6

def k0_dev1 : Nat :=
  let c0_i32_1318 : BitVec 32 := 0#32
  let c0_i32_1316 : BitVec 32 := 0#32
  let c1_i32_1317 : BitVec 32 := 1#32
  let v955 : BitVec 32 := Scalar.muli c0_i32_1316 c1_i32_1317
  let v956 : BitVec 32 := Scalar.addi c0_i32_1318 v955
  v956.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v7 : BitVec 1 := Scalar.cmpi .ne v2 c1_i32_1
  let v8 : BitVec 32 := Scalar.extui v7
  let c0_i32_2 : BitVec 32 := 0#32
  let v9 : BitVec 1 := Scalar.cmpi .ne v8 c0_i32_2
  v9

def k0_dev2 : Nat :=
  let c0_i32_1318 : BitVec 32 := 0#32
  let c1_i32_1316 : BitVec 32 := 1#32
  let c1_i32_1317 : BitVec 32 := 1#32
  let v955 : BitVec 32 := Scalar.muli c1_i32_1316 c1_i32_1317
  let v956 : BitVec 32 := Scalar.addi c0_i32_1318 v955
  v956.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v10 : BitVec 1 := Scalar.cmpi .ne v2 c2_i32
  let v11 : BitVec 32 := Scalar.extui v10
  let c0_i32_3 : BitVec 32 := 0#32
  let v12 : BitVec 1 := Scalar.cmpi .ne v11 c0_i32_3
  v12

def k0_dev3 : Nat :=
  let c0_i32_1318 : BitVec 32 := 0#32
  let c2_i32_1316 : BitVec 32 := 2#32
  let c1_i32_1317 : BitVec 32 := 1#32
  let v955 : BitVec 32 := Scalar.muli c2_i32_1316 c1_i32_1317
  let v956 : BitVec 32 := Scalar.addi c0_i32_1318 v955
  v956.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v13 : BitVec 1 := Scalar.cmpi .ne v2 c3_i32
  let v14 : BitVec 32 := Scalar.extui v13
  let c0_i32_4 : BitVec 32 := 0#32
  let v15 : BitVec 1 := Scalar.cmpi .ne v14 c0_i32_4
  v15

def k0_dev4 : Nat :=
  let c0_i32_1318 : BitVec 32 := 0#32
  let c3_i32_1316 : BitVec 32 := 3#32
  let c1_i32_1317 : BitVec 32 := 1#32
  let v955 : BitVec 32 := Scalar.muli c3_i32_1316 c1_i32_1317
  let v956 : BitVec 32 := Scalar.addi c0_i32_1318 v955
  v956.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 1 := Scalar.cmpi .ne v2 c4_i32
  let v17 : BitVec 32 := Scalar.extui v16
  let c0_i32_5 : BitVec 32 := 0#32
  let v18 : BitVec 1 := Scalar.cmpi .ne v17 c0_i32_5
  v18

def k0_dev5 : Nat :=
  let c0_i32_1318 : BitVec 32 := 0#32
  let c4_i32_1316 : BitVec 32 := 4#32
  let c1_i32_1317 : BitVec 32 := 1#32
  let v955 : BitVec 32 := Scalar.muli c4_i32_1316 c1_i32_1317
  let v956 : BitVec 32 := Scalar.addi c0_i32_1318 v955
  v956.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v19 : BitVec 1 := Scalar.cmpi .ne v2 c5_i32
  let v20 : BitVec 32 := Scalar.extui v19
  let c0_i32_6 : BitVec 32 := 0#32
  let v21 : BitVec 1 := Scalar.cmpi .ne v20 c0_i32_6
  v21

def k0_dev6 : Nat :=
  let c0_i32_1318 : BitVec 32 := 0#32
  let c5_i32_1316 : BitVec 32 := 5#32
  let c1_i32_1317 : BitVec 32 := 1#32
  let v955 : BitVec 32 := Scalar.muli c5_i32_1316 c1_i32_1317
  let v956 : BitVec 32 := Scalar.addi c0_i32_1318 v955
  v956.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v22 : BitVec 1 := Scalar.cmpi .ne v2 c6_i32
  let v23 : BitVec 32 := Scalar.extui v22
  let c0_i32_7 : BitVec 32 := 0#32
  let v24 : BitVec 1 := Scalar.cmpi .ne v23 c0_i32_7
  v24

def k0_dev7 : Nat :=
  let c0_i32_1318 : BitVec 32 := 0#32
  let c6_i32_1316 : BitVec 32 := 6#32
  let c1_i32_1317 : BitVec 32 := 1#32
  let v955 : BitVec 32 := Scalar.muli c6_i32_1316 c1_i32_1317
  let v956 : BitVec 32 := Scalar.addi c0_i32_1318 v955
  v956.toNat
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v25 : BitVec 1 := Scalar.cmpi .ne v2 c7_i32
  let v26 : BitVec 32 := Scalar.extui v25
  let c0_i32_8 : BitVec 32 := 0#32
  let v27 : BitVec 1 := Scalar.cmpi .ne v26 c0_i32_8
  v27

def k0_dev8 : Nat :=
  let c0_i32_1318 : BitVec 32 := 0#32
  let c7_i32_1316 : BitVec 32 := 7#32
  let c1_i32_1317 : BitVec 32 := 1#32
  let v955 : BitVec 32 := Scalar.muli c7_i32_1316 c1_i32_1317
  let v956 : BitVec 32 := Scalar.addi c0_i32_1318 v955
  v956.toNat
def k0_dev9 (d0 : Dev nD) : Nat :=
  let c0_i32_36 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_26 : BitVec 32 := 6#32
  let v83 : BitVec 32 := Scalar.xori v2 c6_i32_26
  let c1_i32_35 : BitVec 32 := 1#32
  let v84 : BitVec 32 := Scalar.muli v83 c1_i32_35
  let v85 : BitVec 32 := Scalar.addi c0_i32_36 v84
  v85.toNat
def k0_dev10 (d0 : Dev nD) : Nat :=
  let c0_i32_51 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_41 : BitVec 32 := 2#32
  let v94 : BitVec 32 := Scalar.xori v2 c2_i32_41
  let c1_i32_50 : BitVec 32 := 1#32
  let v95 : BitVec 32 := Scalar.muli v94 c1_i32_50
  let v96 : BitVec 32 := Scalar.addi c0_i32_51 v95
  v96.toNat
def k0_dev11 (d0 : Dev nD) : Nat :=
  let c0_i32_66 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_56 : BitVec 32 := 5#32
  let v105 : BitVec 32 := Scalar.xori v2 c5_i32_56
  let c1_i32_65 : BitVec 32 := 1#32
  let v106 : BitVec 32 := Scalar.muli v105 c1_i32_65
  let v107 : BitVec 32 := Scalar.addi c0_i32_66 v106
  v107.toNat
def k0_dev12 (d0 : Dev nD) : Nat :=
  let c0_i32_81 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_71 : BitVec 32 := 7#32
  let v116 : BitVec 32 := Scalar.xori v2 c7_i32_71
  let c1_i32_80 : BitVec 32 := 1#32
  let v117 : BitVec 32 := Scalar.muli v116 c1_i32_80
  let v118 : BitVec 32 := Scalar.addi c0_i32_81 v117
  v118.toNat
def k0_dev13 (d0 : Dev nD) : Nat :=
  let c0_i32_96 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_86 : BitVec 32 := 1#32
  let v127 : BitVec 32 := Scalar.xori v2 c1_i32_86
  let c1_i32_95 : BitVec 32 := 1#32
  let v128 : BitVec 32 := Scalar.muli v127 c1_i32_95
  let v129 : BitVec 32 := Scalar.addi c0_i32_96 v128
  v129.toNat
def k0_dev14 (d0 : Dev nD) : Nat :=
  let c0_i32_111 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_101 : BitVec 32 := 3#32
  let v138 : BitVec 32 := Scalar.xori v2 c3_i32_101
  let c1_i32_110 : BitVec 32 := 1#32
  let v139 : BitVec 32 := Scalar.muli v138 c1_i32_110
  let v140 : BitVec 32 := Scalar.addi c0_i32_111 v139
  v140.toNat
def k0_dev15 (d0 : Dev nD) : Nat :=
  let c0_i32_126 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_116 : BitVec 32 := 4#32
  let v149 : BitVec 32 := Scalar.xori v2 c4_i32_116
  let c1_i32_125 : BitVec 32 := 1#32
  let v150 : BitVec 32 := Scalar.muli v149 c1_i32_125
  let v151 : BitVec 32 := Scalar.addi c0_i32_126 v150
  v151.toNat
def k0_dev16 (d0 : Dev nD) : Nat :=
  let c0_i32_141 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_131 : BitVec 32 := 6#32
  let v160 : BitVec 32 := Scalar.xori v2 c6_i32_131
  let c1_i32_140 : BitVec 32 := 1#32
  let v161 : BitVec 32 := Scalar.muli v160 c1_i32_140
  let v162 : BitVec 32 := Scalar.addi c0_i32_141 v161
  v162.toNat
def k0_dev17 (d0 : Dev nD) : Nat :=
  let c0_i32_156 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_146 : BitVec 32 := 2#32
  let v171 : BitVec 32 := Scalar.xori v2 c2_i32_146
  let c1_i32_155 : BitVec 32 := 1#32
  let v172 : BitVec 32 := Scalar.muli v171 c1_i32_155
  let v173 : BitVec 32 := Scalar.addi c0_i32_156 v172
  v173.toNat
def k0_dev18 (d0 : Dev nD) : Nat :=
  let c0_i32_171 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_161 : BitVec 32 := 5#32
  let v182 : BitVec 32 := Scalar.xori v2 c5_i32_161
  let c1_i32_170 : BitVec 32 := 1#32
  let v183 : BitVec 32 := Scalar.muli v182 c1_i32_170
  let v184 : BitVec 32 := Scalar.addi c0_i32_171 v183
  v184.toNat
def k0_dev19 (d0 : Dev nD) : Nat :=
  let c0_i32_186 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_176 : BitVec 32 := 7#32
  let v193 : BitVec 32 := Scalar.xori v2 c7_i32_176
  let c1_i32_185 : BitVec 32 := 1#32
  let v194 : BitVec 32 := Scalar.muli v193 c1_i32_185
  let v195 : BitVec 32 := Scalar.addi c0_i32_186 v194
  v195.toNat
def k0_dev20 (d0 : Dev nD) : Nat :=
  let c0_i32_201 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_191 : BitVec 32 := 1#32
  let v204 : BitVec 32 := Scalar.xori v2 c1_i32_191
  let c1_i32_200 : BitVec 32 := 1#32
  let v205 : BitVec 32 := Scalar.muli v204 c1_i32_200
  let v206 : BitVec 32 := Scalar.addi c0_i32_201 v205
  v206.toNat
def k0_dev21 (d0 : Dev nD) : Nat :=
  let c0_i32_216 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_206 : BitVec 32 := 3#32
  let v215 : BitVec 32 := Scalar.xori v2 c3_i32_206
  let c1_i32_215 : BitVec 32 := 1#32
  let v216 : BitVec 32 := Scalar.muli v215 c1_i32_215
  let v217 : BitVec 32 := Scalar.addi c0_i32_216 v216
  v217.toNat
def k0_dev22 (d0 : Dev nD) : Nat :=
  let c0_i32_231 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_221 : BitVec 32 := 4#32
  let v226 : BitVec 32 := Scalar.xori v2 c4_i32_221
  let c1_i32_230 : BitVec 32 := 1#32
  let v227 : BitVec 32 := Scalar.muli v226 c1_i32_230
  let v228 : BitVec 32 := Scalar.addi c0_i32_231 v227
  v228.toNat
def k0_dev23 (d0 : Dev nD) : Nat :=
  let c0_i32_386 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_376 : BitVec 32 := 6#32
  let v339 : BitVec 32 := Scalar.xori v2 c6_i32_376
  let c1_i32_385 : BitVec 32 := 1#32
  let v340 : BitVec 32 := Scalar.muli v339 c1_i32_385
  let v341 : BitVec 32 := Scalar.addi c0_i32_386 v340
  v341.toNat
def k0_dev24 (d0 : Dev nD) : Nat :=
  let c0_i32_401 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_391 : BitVec 32 := 2#32
  let v350 : BitVec 32 := Scalar.xori v2 c2_i32_391
  let c1_i32_400 : BitVec 32 := 1#32
  let v351 : BitVec 32 := Scalar.muli v350 c1_i32_400
  let v352 : BitVec 32 := Scalar.addi c0_i32_401 v351
  v352.toNat
def k0_dev25 (d0 : Dev nD) : Nat :=
  let c0_i32_416 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_406 : BitVec 32 := 5#32
  let v361 : BitVec 32 := Scalar.xori v2 c5_i32_406
  let c1_i32_415 : BitVec 32 := 1#32
  let v362 : BitVec 32 := Scalar.muli v361 c1_i32_415
  let v363 : BitVec 32 := Scalar.addi c0_i32_416 v362
  v363.toNat
def k0_dev26 (d0 : Dev nD) : Nat :=
  let c0_i32_431 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_421 : BitVec 32 := 7#32
  let v372 : BitVec 32 := Scalar.xori v2 c7_i32_421
  let c1_i32_430 : BitVec 32 := 1#32
  let v373 : BitVec 32 := Scalar.muli v372 c1_i32_430
  let v374 : BitVec 32 := Scalar.addi c0_i32_431 v373
  v374.toNat
def k0_dev27 (d0 : Dev nD) : Nat :=
  let c0_i32_446 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_436 : BitVec 32 := 1#32
  let v383 : BitVec 32 := Scalar.xori v2 c1_i32_436
  let c1_i32_445 : BitVec 32 := 1#32
  let v384 : BitVec 32 := Scalar.muli v383 c1_i32_445
  let v385 : BitVec 32 := Scalar.addi c0_i32_446 v384
  v385.toNat
def k0_dev28 (d0 : Dev nD) : Nat :=
  let c0_i32_461 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_451 : BitVec 32 := 3#32
  let v394 : BitVec 32 := Scalar.xori v2 c3_i32_451
  let c1_i32_460 : BitVec 32 := 1#32
  let v395 : BitVec 32 := Scalar.muli v394 c1_i32_460
  let v396 : BitVec 32 := Scalar.addi c0_i32_461 v395
  v396.toNat
def k0_dev29 (d0 : Dev nD) : Nat :=
  let c0_i32_476 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_466 : BitVec 32 := 4#32
  let v405 : BitVec 32 := Scalar.xori v2 c4_i32_466
  let c1_i32_475 : BitVec 32 := 1#32
  let v406 : BitVec 32 := Scalar.muli v405 c1_i32_475
  let v407 : BitVec 32 := Scalar.addi c0_i32_476 v406
  v407.toNat
def k0_dev30 (d0 : Dev nD) : Nat :=
  let c0_i32_637 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_627 : BitVec 32 := 6#32
  let v518 : BitVec 32 := Scalar.xori v2 c6_i32_627
  let c1_i32_636 : BitVec 32 := 1#32
  let v519 : BitVec 32 := Scalar.muli v518 c1_i32_636
  let v520 : BitVec 32 := Scalar.addi c0_i32_637 v519
  v520.toNat
def k0_dev31 (d0 : Dev nD) : Nat :=
  let c0_i32_652 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_642 : BitVec 32 := 2#32
  let v529 : BitVec 32 := Scalar.xori v2 c2_i32_642
  let c1_i32_651 : BitVec 32 := 1#32
  let v530 : BitVec 32 := Scalar.muli v529 c1_i32_651
  let v531 : BitVec 32 := Scalar.addi c0_i32_652 v530
  v531.toNat
def k0_dev32 (d0 : Dev nD) : Nat :=
  let c0_i32_667 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_657 : BitVec 32 := 5#32
  let v540 : BitVec 32 := Scalar.xori v2 c5_i32_657
  let c1_i32_666 : BitVec 32 := 1#32
  let v541 : BitVec 32 := Scalar.muli v540 c1_i32_666
  let v542 : BitVec 32 := Scalar.addi c0_i32_667 v541
  v542.toNat
def k0_dev33 (d0 : Dev nD) : Nat :=
  let c0_i32_682 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_672 : BitVec 32 := 7#32
  let v551 : BitVec 32 := Scalar.xori v2 c7_i32_672
  let c1_i32_681 : BitVec 32 := 1#32
  let v552 : BitVec 32 := Scalar.muli v551 c1_i32_681
  let v553 : BitVec 32 := Scalar.addi c0_i32_682 v552
  v553.toNat
def k0_dev34 (d0 : Dev nD) : Nat :=
  let c0_i32_697 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_687 : BitVec 32 := 1#32
  let v562 : BitVec 32 := Scalar.xori v2 c1_i32_687
  let c1_i32_696 : BitVec 32 := 1#32
  let v563 : BitVec 32 := Scalar.muli v562 c1_i32_696
  let v564 : BitVec 32 := Scalar.addi c0_i32_697 v563
  v564.toNat
def k0_dev35 (d0 : Dev nD) : Nat :=
  let c0_i32_712 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_702 : BitVec 32 := 3#32
  let v573 : BitVec 32 := Scalar.xori v2 c3_i32_702
  let c1_i32_711 : BitVec 32 := 1#32
  let v574 : BitVec 32 := Scalar.muli v573 c1_i32_711
  let v575 : BitVec 32 := Scalar.addi c0_i32_712 v574
  v575.toNat
def k0_dev36 (d0 : Dev nD) : Nat :=
  let c0_i32_727 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_717 : BitVec 32 := 4#32
  let v584 : BitVec 32 := Scalar.xori v2 c4_i32_717
  let c1_i32_726 : BitVec 32 := 1#32
  let v585 : BitVec 32 := Scalar.muli v584 c1_i32_726
  let v586 : BitVec 32 := Scalar.addi c0_i32_727 v585
  v586.toNat
abbrev stage0_0 : Fin 1 → Memref sig .tc .vmem S512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S512x2048 : Shape := ⟨2, ![512, 2048]⟩
abbrev S2048x512 : Shape := ⟨2, ![2048, 512]⟩
abbrev S512x512 : Shape := ⟨2, ![512, 512]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S512x2048, .bf16⟩
  | .hbm, ⟨1, _⟩ => ⟨S2048x512, .bf16⟩
  | .hbm, ⟨2, _⟩ => ⟨S512x2048, .f32⟩
  | .hbm, ⟨3, _⟩ => ⟨S2048x512, .f32⟩
  | .hbm, ⟨4, _⟩ => ⟨S512x512, .f32⟩
  | .hbm, ⟨5, _⟩ => ⟨S_, .f32⟩
  | .hbm, ⟨6, _⟩ => ⟨S512x512, .f32⟩
  | .hbm, ⟨7, _⟩ => ⟨S512x512, .f32⟩
  | .hbm, ⟨8, _⟩ => ⟨S_, .f32⟩
  | .hbm, ⟨9, _⟩ => ⟨S512x512, .f32⟩
  | .hbm, ⟨10, _⟩ => ⟨S512x512, .f32⟩
  | .hbm, ⟨11, _⟩ => ⟨S512x512, .f32⟩
  | .hbm, ⟨12, _⟩ => ⟨S512x512, .f32⟩
  | .hbm, ⟨13, _⟩ => ⟨S512x512, .f32⟩
  | .hbm, ⟨14, _⟩ => ⟨S_, .f32⟩
  | .hbm, ⟨15, _⟩ => ⟨S512x512, .f32⟩
  | .hbm, ⟨16, _⟩ => ⟨S512x512, .f32⟩
  | .hbm, ⟨17, _⟩ => ⟨S512x512, .f32⟩
  | .hbm, ⟨18, _⟩ => ⟨S_, .f32⟩
  | .hbm, ⟨19, _⟩ => ⟨S512x512, .f32⟩
  | .hbm, ⟨20, _⟩ => ⟨S512x512, .f32⟩
  | .hbm, ⟨21, _⟩ => ⟨S512x512, .f32⟩
  | .hbm, ⟨22, _⟩ => ⟨S512x512, .bf16⟩
  | _, _ => ⟨S512x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Proof.Slots.lean ====
/-
# The slots of the three scratch buffers and what they hold

The kernel keeps its partial products, the partial products it receives and the finished row blocks in three
buffers of shape `2 x 8 x 64 x 256`. Entry `(h, x)` is a slot of `64 x 256`: column half `h` and relative position
`x`, shared between device `c` and its partner `peer c x` (exclusive or of the two numbers). This module names the
slots as sets of indices, proves that the views of the program address exactly these sets, and defines the
contents that each buffer finally holds on each device, for any float values.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.ShareLeaves
public import Idealize.ShloMosaic.Lib.Tactic

@[expose] public section

noncomputable section

namespace Cert.XorProof

open Cert.KernelIdeal Cert.KernelIdeal.Gen

open Idealize.ShloMosaic
open Idealize.ShloMosaic.TcCoe

variable {F : FTy → Type} [FloatOps F]

/-! ## Partners -/

/-- The partner of device `c` at relative position `x`. -/
def peer (c : Dev nD) (x : Fin 8) : Dev nD := ⟨(c.val ^^^ x.val) % 8, Nat.mod_lt _ (by decide)⟩

theorem peer_peer (c : Dev nD) (x : Fin 8) : peer (peer c x) x = c := by revert c x; decide
theorem peer_zero (c : Dev nD) : peer c 0 = c := by revert c; decide
theorem peer_ne (c : Dev nD) (x : Fin 8) (h : x ≠ 0) : peer c x ≠ c := by revert c x; decide

/-! ## Slots as sets of indices -/

/-- The indices of slot `(h, x)`. -/
def slotSet (h : Fin 2) (x : Fin 8) : Finset S2x8x64x256.Idx :=
  Finset.univ.filter fun i => (i 0).val = h.val ∧ (i 1).val = x.val

/-- The indices of half `h`. -/
def halfSet (h : Fin 2) : Finset S2x8x64x256.Idx := Finset.univ.filter fun i => (i 0).val = h.val

theorem mem_slotSet {h : Fin 2} {x : Fin 8} {i : S2x8x64x256.Idx} :
    i ∈ slotSet h x ↔ (i 0).val = h.val ∧ (i 1).val = x.val := by simp [slotSet]

theorem mem_halfSet {h : Fin 2} {i : S2x8x64x256.Idx} : i ∈ halfSet h ↔ (i 0).val = h.val := by simp [halfSet]

/-- The bounds of a slot's rectangle, for slot numbers given as plain numbers. -/
abbrev InbSlot (h x : ℕ) : Prop := ∀ a, (![h, x, 0, 0] : Fin 4 → Nat) a + S1x1x64x256.size a ≤ S2x8x64x256.size a
abbrev InbHalf (h : ℕ) : Prop := ∀ a, (![h, 0, 0, 0] : Fin 4 → Nat) a + S1x8x64x256.size a ≤ S2x8x64x256.size a

abbrev slotRect (h x : ℕ) (i : InbSlot h x) : Rect S2x8x64x256 := Rect.unit (s := S2x8x64x256) ![h, x, 0, 0] S1x1x64x256.size i
abbrev halfRect (h : ℕ) (i : InbHalf h) : Rect S2x8x64x256 := Rect.unit (s := S2x8x64x256) ![h, 0, 0, 0] S1x8x64x256.size i

theorem slotRect_set (h : Fin 2) (x : Fin 8) (i : InbSlot h x) : (slotRect h x i).set = slotSet h x := by
  ext j
  rw [Rect.mem_set_unit, mem_slotSet]
  constructor
  · intro H
    have h0 := H 0; have h1 := H 1
    simp [S1x1x64x256] at h0 h1
    exact ⟨by omega, by omega⟩
  · rintro ⟨h0, h1⟩ a
    have h2 : (j 2).val < 64 := (j 2).isLt
    have h3 : (j 3).val < 256 := (j 3).isLt
    fin_cases a <;> simp [S1x1x64x256] <;> omega

theorem halfRect_set (h : Fin 2) (i : InbHalf h) : (halfRect h i).set = halfSet h := by
  ext j
  rw [Rect.mem_set_unit, mem_halfSet]
  constructor
  · intro H
    have h0 := H 0
    simp [S1x8x64x256] at h0
    omega
  · rintro h0 a
    have h1 : (j 1).val < 8 := (j 1).isLt
    have h2 : (j 2).val < 64 := (j 2).isLt
    have h3 : (j 3).val < 256 := (j 3).isLt
    fin_cases a <;> simp [S1x8x64x256] <;> omega

/-! ## The memrefs -/

abbrev aM : Memref sig .tc .vmem S512x256 .bf16 := Memref.whole cc0_stg0_0
abbrev bM : Memref sig .tc .vmem S256x512 .bf16 := Memref.whole cc0_stg1_0
abbrev oM : Memref sig .tc .vmem S512x512 .bf16 := Memref.whole cc0_stg2_0
abbrev partM : Memref sig .tc .vmem S2x8x64x256 .bf16 := Memref.whole cc0_scratch0
abbrev rsM : Memref sig .tc .vmem S2x8x64x256 .bf16 := Memref.whole cc0_scratch1
abbrev agM : Memref sig .tc .vmem S2x8x64x256 .bf16 := Memref.whole cc0_scratch2

/-- Slot `(h, x)` of a buffer, as the program addresses it in a copy. -/
abbrev slotM (M : Memref sig .tc .vmem S2x8x64x256 .bf16) (h x : ℕ) (i : InbSlot h x) : Memref sig .tc .vmem S64x256 .bf16 :=
  (M.slice (slotRect h x i) (fun _ => rfl)).squeeze S64x256 squeezes_S1x1x64x256_S64x256

theorem slotM_set_part (h : Fin 2) (x : Fin 8) (i : InbSlot h x) : (slotM partM h x i).view.set = slotSet h x :=
  (View.set_reshape ((View.whole cc0_scratch0).slice (slotRect h x i)) squeezes_S1x1x64x256_S64x256.numel_eq).trans
    ((View.set_slice_whole cc0_scratch0 (slotRect h x i)).trans (slotRect_set h x i))
theorem slotM_set_rs (h : Fin 2) (x : Fin 8) (i : InbSlot h x) : (slotM rsM h x i).view.set = slotSet h x :=
  (View.set_reshape ((View.whole cc0_scratch1).slice (slotRect h x i)) squeezes_S1x1x64x256_S64x256.numel_eq).trans
    ((View.set_slice_whole cc0_scratch1 (slotRect h x i)).trans (slotRect_set h x i))
theorem slotM_set_ag (h : Fin 2) (x : Fin 8) (i : InbSlot h x) : (slotM agM h x i).view.set = slotSet h x :=
  (View.set_reshape ((View.whole cc0_scratch2).slice (slotRect h x i)) squeezes_S1x1x64x256_S64x256.numel_eq).trans
    ((View.set_slice_whole cc0_scratch2 (slotRect h x i)).trans (slotRect_set h x i))

/-! ## Reading and writing slots and halves -/

/-- The contents of one of the three buffers. -/
abbrev Buf3 (F : FTy → Type) [FloatOps F] : Type := S2x8x64x256.Idx → Elt F .bf16

/-- The index of the buffer under entry `j` of slot `(h, x)`. -/
def slotIdx (h : Fin 2) (x : Fin 8) (j : S1x1x64x256.Idx) : S2x8x64x256.Idx
  | 0 => h | 1 => x | 2 => j 2 | 3 => j 3
/-- The entry of its slot that an index of the buffer is. -/
def inSlot (i : S2x8x64x256.Idx) : S1x1x64x256.Idx
  | 0 => (0 : Fin 1) | 1 => (0 : Fin 1) | 2 => i 2 | 3 => i 3
/-- The index of the buffer under entry `j` of half `h`. -/
def halfIdx (h : Fin 2) (j : S1x8x64x256.Idx) : S2x8x64x256.Idx
  | 0 => h | 1 => j 1 | 2 => j 2 | 3 => j 3
/-- The entry of its half that an index of the buffer is. -/
def inHalf (i : S2x8x64x256.Idx) : S1x8x64x256.Idx
  | 0 => (0 : Fin 1) | 1 => i 1 | 2 => i 2 | 3 => i 3

/-- Slot `(h, x)` of contents `f`, as a load of it reads. -/
def slotv (f : Buf3 F) (h : Fin 2) (x : Fin 8) : Vec F S1x1x64x256 .bf16 := fun j => f (slotIdx h x j)
/-- Half `h` of contents `f`, as a load of it reads. -/
def halfv (f : Buf3 F) (h : Fin 2) : Vec F S1x8x64x256 .bf16 := fun j => f (halfIdx h j)

theorem slotRect_idx (h : Fin 2) (x : Fin 8) (i : InbSlot h x) (j : S1x1x64x256.Idx) : (slotRect h x i).emb j = slotIdx h x j := by
  have h0 : (j 0).val < 1 := (j 0).isLt
  have h1 : (j 1).val < 1 := (j 1).isLt
  funext a
  apply Fin.ext
  rw [Rect.emb_apply]
  fin_cases a <;> simp [slotIdx] <;> omega

theorem halfRect_idx (h : Fin 2) (i : InbHalf h) (j : S1x8x64x256.Idx) : (halfRect h i).emb j = halfIdx h j := by
  have h0 : (j 0).val < 1 := (j 0).isLt
  funext a
  apply Fin.ext
  rw [Rect.emb_apply]
  fin_cases a <;> simp [halfIdx] <;> omega

theorem inSlot_slotIdx (h : Fin 2) (x : Fin 8) (j : S1x1x64x256.Idx) : inSlot (slotIdx h x j) = j := by
  have h0 : (j 0).val < 1 := (j 0).isLt
  have h1 : (j 1).val < 1 := (j 1).isLt
  funext a; apply Fin.ext
  fin_cases a <;> simp [slotIdx, inSlot] <;> omega
theorem inHalf_halfIdx (h : Fin 2) (j : S1x8x64x256.Idx) : inHalf (halfIdx h j) = j := by
  have h0 : (j 0).val < 1 := (j 0).isLt
  funext a; apply Fin.ext
  fin_cases a <;> simp [halfIdx, inHalf] <;> omega
theorem slotIdx_inSlot {h : Fin 2} {x : Fin 8} {i : S2x8x64x256.Idx} (hi : i ∈ slotSet h x) : slotIdx h x (inSlot i) = i := by
  obtain ⟨h0, h1⟩ := mem_slotSet.mp hi
  funext a; apply Fin.ext
  fin_cases a <;> simp [slotIdx, inSlot] <;> omega
theorem halfIdx_inHalf {h : Fin 2} {i : S2x8x64x256.Idx} (hi : i ∈ halfSet h) : halfIdx h (inHalf i) = i := by
  have h0 := mem_halfSet.mp hi
  funext a; apply Fin.ext
  fin_cases a <;> simp [halfIdx, inHalf] <;> omega

theorem slotv_congr {f g : Buf3 F} {h : Fin 2} {x : Fin 8} (H : ∀ i ∈ slotSet h x, f i = g i) : slotv f h x = slotv g h x :=
  funext fun j => H _ (mem_slotSet.mpr ⟨rfl, rfl⟩)

section Access
variable (h : Fin 2) (x : Fin 8) (i : InbSlot h x) (ih : InbHalf h) (f : Buf3 F)

theorem readAt_part : partM.view.readAt (Elt F) (slotRect h x i).toLoadRect f = slotv f h x :=
  funext fun j => congrArg f (slotRect_idx h x i j)
theorem readAt_rs : rsM.view.readAt (Elt F) (slotRect h x i).toLoadRect f = slotv f h x :=
  funext fun j => congrArg f (slotRect_idx h x i j)
theorem readAt_ag : agM.view.readAt (Elt F) (slotRect h x i).toLoadRect f = slotv f h x :=
  funext fun j => congrArg f (slotRect_idx h x i j)
theorem readHalf_part : partM.view.readAt (Elt F) (halfRect h ih).toLoadRect f = halfv f h :=
  funext fun j => congrArg f (halfRect_idx h ih j)
theorem readHalf_ag : agM.view.readAt (Elt F) (halfRect h ih).toLoadRect f = halfv f h :=
  funext fun j => congrArg f (halfRect_idx h ih j)

/-- A store to a slot leaves the stored value there. -/
theorem write_rs (w : Vec F S1x1x64x256 .bf16) (k : S2x8x64x256.Idx) (hk : k ∈ slotSet h x) :
    (rsM.access (slotRect h x i)).write (Elt F) f w Finset.univ k = w (inSlot k) := by
  have := View.write_emb_of_mem (v := rsM.access (slotRect h x i)) (Val := Elt F) f w (x := inSlot k) (Finset.mem_univ _)
  rw [show (rsM.access (slotRect h x i)).emb (inSlot k) = k from (slotRect_idx h x i _).trans (slotIdx_inSlot hk)] at this
  exact this
theorem write_ag (w : Vec F S1x1x64x256 .bf16) (k : S2x8x64x256.Idx) (hk : k ∈ slotSet h x) :
    (agM.access (slotRect h x i)).write (Elt F) f w Finset.univ k = w (inSlot k) := by
  have := View.write_emb_of_mem (v := agM.access (slotRect h x i)) (Val := Elt F) f w (x := inSlot k) (Finset.mem_univ _)
  rw [show (agM.access (slotRect h x i)).emb (inSlot k) = k from (slotRect_idx h x i _).trans (slotIdx_inSlot hk)] at this
  exact this
/-- A store to a half leaves the stored value there -/
theorem writeHalf_part (w : Vec F S1x8x64x256 .bf16) (k : S2x8x64x256.Idx) (hk : k ∈ halfSet h) :
    (partM.access (halfRect h ih)).write (Elt F) f w Finset.univ k = w (inHalf k) := by
  have := View.write_emb_of_mem (v := partM.access (halfRect h ih)) (Val := Elt F) f w (x := inHalf k) (Finset.mem_univ _)
  rw [show (partM.access (halfRect h ih)).emb (inHalf k) = k from (halfRect_idx h ih _).trans (halfIdx_inHalf hk)] at this
  exact this
/-- and the other half as it was. -/
theorem writeHalf_part_off (w : Vec F S1x8x64x256 .bf16) (k : S2x8x64x256.Idx) (hk : k ∉ halfSet h) :
    (partM.access (halfRect h ih)).write (Elt F) f w Finset.univ k = f k := by
  refine View.write_of_not_mem _ _ _ ?_
  intro hm
  apply hk
  obtain ⟨j, -, hj⟩ := Finset.mem_map.mp hm
  rw [← hj]
  refine mem_halfSet.mpr ?_
  have e : (partM.access (halfRect h ih)).emb j = halfIdx h j := halfRect_idx h ih j
  rw [e]; rfl

end Access

/-- What a copy of slot `(h, x)` of the partial products leaves in slot `(h, x)` of the receiver's buffer. -/
theorem copy_rs (h : Fin 2) (x : Fin 8) (i i' : InbSlot h x) (fs fd : Buf3 F) (k : S2x8x64x256.Idx) (hk : k ∈ slotSet h x) :
    (slotM rsM h x i').view.write (Elt F) fd ((slotM partM h x i).view.read (Elt F) fs) Finset.univ k = fs k := by
  rw [← slotM_set_rs h x i'] at hk
  obtain ⟨j, -, hj⟩ := Finset.mem_map.mp hk
  have := View.write_emb_of_mem (v := (slotM rsM h x i').view) (Val := Elt F) fd ((slotM partM h x i).view.read (Elt F) fs) (x := j) (Finset.mem_univ _)
  rw [hj] at this
  rw [this, ← hj]; rfl

/-- What a copy of slot `(h, 0)` of the finished blocks leaves in slot `(h, x)` of the receiver's buffer. -/
theorem copy_ag (h : Fin 2) (x : Fin 8) (i : InbSlot h (0 : Fin 8)) (i' : InbSlot h x) (fs fd : Buf3 F) (k : S2x8x64x256.Idx) (hk : k ∈ slotSet h x) :
    (slotM agM h x i').view.write (Elt F) fd ((slotM agM h (0 : Fin 8) i).view.read (Elt F) fs) Finset.univ k = fs (slotIdx h 0 (inSlot k)) := by
  rw [← slotM_set_ag h x i'] at hk
  obtain ⟨j, -, hj⟩ := Finset.mem_map.mp hk
  have := View.write_emb_of_mem (v := (slotM agM h x i').view) (Val := Elt F) fd ((slotM agM h (0 : Fin 8) i).view.read (Elt F) fs) (x := j) (Finset.mem_univ _)
  rw [hj] at this
  rw [this]
  obtain ⟨j', hj'⟩ : ∃ j' : S1x1x64x256.Idx, (slotM agM h x i').view.emb j = (slotRect h x i').emb j' ∧
      (slotM agM h (0 : Fin 8) i).view.emb j = (slotRect h (0 : Fin 8) i).emb j' :=
    ⟨Shape.reshapeEquiv squeezes_S1x1x64x256_S64x256.numel_eq j, rfl, rfl⟩
  have e : inSlot k = j' := by rw [← hj, hj'.1, slotRect_idx, inSlot_slotIdx]
  rw [e, ← slotRect_idx h 0 i j', ← hj'.2]; rfl

end Cert.XorProof

end
-- ==== Proof.Contents.lean ====
/-
# What every buffer holds on every device, for any float values

`A c` and `B c` are device `c`'s blocks of the two arguments. The four functions below are the contents of the
three scratch buffers and of the result after the run: the partial products that device `c` computes, the partial
products that it receives, the finished row blocks and the assembled result. Slot `(h, x)` of what device `c`
receives is slot `(h, x)` of what `peer c x` computed.
-/
module

public import proofs.«01_k».proof.Proof.Slots

@[expose] public section

noncomputable section

namespace Cert.XorProof

open Cert.KernelIdeal Cert.KernelIdeal.Gen

open Idealize.ShloMosaic
open Idealize.ShloMosaic.TcCoe

variable {F : FTy → Type} [FloatOps F]
variable (A : Dev nD → Vec F S512x256 .bf16) (B : Dev nD → Vec F S256x512 .bf16)

/-- Device `c`'s own number as the program computes it. -/
def word (c : Dev nD) : BitVec 32 := Scalar.remsi (Scalar.divsi (Dev.word c) 1#32) 8#32

/-- The partial products of device `c`. -/
def partF (c : Dev nD) : Buf3 F := fun i =>
  if (i 0).val = 0 then k0_pay3 (word c) (k0_pay1 (A c)) (B c) (inHalf i)
  else k0_pay4 (k0_pay2 (word c) (k0_pay1 (A c)) (B c)) (inHalf i)

/-- The partial products that device `c` receives: slot `(h, x)` from `peer c x`. -/
def rsF (c : Dev nD) : Buf3 F := fun i => partF A B (peer c (i 1)) i

/-- The finished row block of device `c`, first column half. -/
def gel0 (c : Dev nD) : Vec F S1x1x64x256 .bf16 :=
  k0_pay10 (k0_pay9 (k0_pay8 (k0_pay7 (k0_pay6 (k0_pay5 (slotv (partF A B c) 0 0))) (slotv (rsF A B c) 0 4) (slotv (rsF A B c) 0 3))
    (slotv (rsF A B c) 0 1) (slotv (rsF A B c) 0 7)) (slotv (rsF A B c) 0 5) (slotv (rsF A B c) 0 2)) (slotv (rsF A B c) 0 6)

/-- The sum of the first six partial products of the second column half. -/
def acc1 (c : Dev nD) : FVec F S64x256 .bf16 :=
  k0_pay14 (k0_pay13 (k0_pay12 (k0_pay11 (slotv (partF A B c) 1 0)) (slotv (rsF A B c) 1 4)) (slotv (rsF A B c) 1 3) (slotv (rsF A B c) 1 1))
    (slotv (rsF A B c) 1 7) (slotv (rsF A B c) 1 5)

/-- The finished row block of device `c`, second column half. -/
def gel1 (c : Dev nD) : Vec F S1x1x64x256 .bf16 :=
  k0_pay19 (k0_pay16 (acc1 A B c) (slotv (rsF A B c) 1 2) (slotv (rsF A B c) 1 6))
    (k0_pay17 (acc1 A B c) (slotv (rsF A B c) 1 2) (slotv (rsF A B c) 1 6)) k0_pay18

def gel (c : Dev nD) (h : Fin 2) : Vec F S1x1x64x256 .bf16 := if h = 0 then gel0 A B c else gel1 A B c

/-- The finished row blocks on device `c`: slot `(h, x)` from `peer c x`. -/
def agF (c : Dev nD) : Buf3 F := fun i => gel A B (peer c (i 1)) (i 0) (inSlot i)

/-- A column of the first half of the result, within its half; -/
def colLo (i : S512x512.Idx) (h : (i 1).val < 256) : S512x256.Idx
  | 0 => i 0 | 1 => (⟨(i 1).val, h⟩ : Fin 256)
/-- and of the second. -/
def colHi (i : S512x512.Idx) : S512x256.Idx
  | 0 => i 0 | 1 => (⟨(i 1).val - 256, by have : (i 1).val < 512 := (i 1).isLt; omega⟩ : Fin 256)

/-- The two halves of the result of device `c`. -/
def outLo (c : Dev nD) : FVec F S512x256 .bf16 := k0_pay20 (word c) (halfv (agF A B c) 0)
def outHi (c : Dev nD) : FVec F S512x256 .bf16 := k0_pay22 (word c) (k0_pay21 (word c) (halfv (agF A B c) 1)) 2#32

/-- The result of device `c`. -/
def outF (c : Dev nD) : (cc0_stg2_0 : Ref sig .tc).ty.Contents (Elt F) := fun i =>
  if h : (i 1).val < 256 then outLo A B c (colLo i h) else outHi A B c (colHi i)

/-! ## The stores produce these contents -/

theorem part_half0 (c : Dev nD) (f : Buf3 F) (ih : InbHalf 0) (ih' : InbHalf 1) (k : S2x8x64x256.Idx) :
    (partM.access (halfRect 1 ih')).write (Elt F) ((partM.access (halfRect 0 ih)).write (Elt F) f (k0_pay3 (word c) (k0_pay1 (A c)) (B c)) Finset.univ)
      (k0_pay4 (k0_pay2 (word c) (k0_pay1 (A c)) (B c))) Finset.univ k = partF A B c k := by
  unfold partF
  by_cases hk : (k 0).val = 0
  · rw [if_pos hk]
    refine (writeHalf_part_off (1 : Fin 2) ih' _ _ k ?_).trans ?_
    · rw [mem_halfSet, hk]; exact Nat.zero_ne_one
    · exact writeHalf_part (0 : Fin 2) ih f _ k (mem_halfSet.mpr hk)
  · rw [if_neg hk]
    refine writeHalf_part (1 : Fin 2) ih' _ _ k (mem_halfSet.mpr ?_)
    have : (k 0).val < 2 := (k 0).isLt
    show (k 0).val = 1
    omega

theorem rsF_at (c : Dev nD) (h : Fin 2) (x : Fin 8) (k : S2x8x64x256.Idx) (hk : k ∈ slotSet h x) :
    rsF A B (peer c x) k = partF A B c k := by
  unfold rsF
  have : k 1 = x := Fin.ext (mem_slotSet.mp hk).2
  rw [this, peer_peer]

theorem agF_at (c : Dev nD) (h : Fin 2) (x : Fin 8) (k : S2x8x64x256.Idx) (hk : k ∈ slotSet h x) :
    agF A B (peer c x) k = agF A B c (slotIdx h 0 (inSlot k)) := by
  unfold agF
  have h1 : k 1 = x := Fin.ext (mem_slotSet.mp hk).2
  have h0 : k 0 = h := Fin.ext (mem_slotSet.mp hk).1
  rw [h1, h0, peer_peer, inSlot_slotIdx]
  show _ = gel A B (peer c 0) h _
  rw [peer_zero]

theorem agF_own (c : Dev nD) (h : Fin 2) (k : S2x8x64x256.Idx) (hk : k ∈ slotSet h 0) : agF A B c k = gel A B c h (inSlot k) := by
  unfold agF
  have h1 : k 1 = (0 : Fin 8) := Fin.ext (mem_slotSet.mp hk).2
  have h0 : k 0 = h := Fin.ext (mem_slotSet.mp hk).1
  rw [h1, h0, peer_zero]

abbrev InbOut (o : ℕ) : Prop := ∀ a, (![0, o] : Fin 2 → Nat) a + S512x256.size a ≤ S512x512.size a
abbrev outRect (o : ℕ) (i : InbOut o) : Rect S512x512 := Rect.unit (s := S512x512) ![0, o] S512x256.size i

theorem out_lo (f : (cc0_stg2_0 : Ref sig .tc).ty.Contents (Elt F)) (w : Vec F S512x256 .bf16) (i : InbOut 0) (k : S512x512.Idx) (hk : (k 1).val < 256) :
    (oM.access (outRect 0 i)).write (Elt F) f w Finset.univ k = w (colLo k hk) := by
  have := View.write_emb_of_mem (v := oM.access (outRect 0 i)) (Val := Elt F) f w (x := colLo k hk) (Finset.mem_univ _)
  have e : (oM.access (outRect 0 i)).emb (colLo k hk) = k := by
    show (outRect 0 i).emb (colLo k hk) = k
    funext a; apply Fin.ext; rw [Rect.emb_apply]
    fin_cases a <;> simp [colLo]
  rw [e] at this
  exact this

theorem out_hi (f : (cc0_stg2_0 : Ref sig .tc).ty.Contents (Elt F)) (w : Vec F S512x256 .bf16) (i : InbOut 256) (k : S512x512.Idx) (hk : ¬ (k 1).val < 256) :
    (oM.access (outRect 256 i)).write (Elt F) f w Finset.univ k = w (colHi k) := by
  have := View.write_emb_of_mem (v := oM.access (outRect 256 i)) (Val := Elt F) f w (x := colHi k) (Finset.mem_univ _)
  have e : (oM.access (outRect 256 i)).emb (colHi k) = k := by
    show (outRect 256 i).emb (colHi k) = k
    funext a; apply Fin.ext; rw [Rect.emb_apply]
    fin_cases a <;> simp [colHi] <;> omega
  rw [e] at this
  exact this

theorem out_hi_off (f : (cc0_stg2_0 : Ref sig .tc).ty.Contents (Elt F)) (w : Vec F S512x256 .bf16) (i : InbOut 256) (k : S512x512.Idx) (hk : (k 1).val < 256) :
    (oM.access (outRect 256 i)).write (Elt F) f w Finset.univ k = f k := by
  refine View.write_of_not_mem _ _ _ ?_
  intro hm
  obtain ⟨j, -, hj⟩ := Finset.mem_map.mp hm
  have e : (oM.access (outRect 256 i)).emb j = (outRect 256 i).emb j := rfl
  rw [e] at hj
  have := congrArg (fun k : S512x512.Idx => (k 1).val) hj
  rw [Rect.emb_apply] at this
  simp at this
  omega

/-- The two stores of the result. -/
theorem out_stores (c : Dev nD) (f : (cc0_stg2_0 : Ref sig .tc).ty.Contents (Elt F)) (i : InbOut 0) (i' : InbOut 256) :
    (oM.access (outRect 256 i')).write (Elt F) ((oM.access (outRect 0 i)).write (Elt F) f (outLo A B c) Finset.univ) (outHi A B c) Finset.univ
      = outF A B c := by
  funext k
  unfold outF
  by_cases hk : (k 1).val < 256
  · rw [dif_pos hk]
    exact (out_hi_off _ _ i' k hk).trans (out_lo f _ i k hk)
  · rw [dif_neg hk]
    exact out_hi _ _ i' k hk

end Cert.XorProof

end
-- ==== Proof.Sched.lean ====
/-
# The protocol between the devices

Every semaphore cell is waited for once. A device's barrier cell gets one unit from every other device; the unit of
device `q` hands over the four slots on `q` that this device is going to write. Every other cell gets the credit of
one slot: a receive cell from the partner's copy, handing over the landing slot with its final contents, a send cell
from the device's own copy, handing the source back. A device waits for its barrier while it owes copies, for partial
products while it may owe finished blocks, and for finished blocks when it owes nothing: levels 1, 2 and 3.
-/
module

public import proofs.«01_k».proof.Proof.Contents

@[expose] public section

noncomputable section

namespace Cert.XorProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

abbrev UB : Type := URounds (GSem nD τ sig) (Fin 8)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (A : Dev nD → Vec F S512x256 .bf16) (B : Dev nD → Vec F S256x512 .bf16)

/-! ## Cells -/

/-- The copies of a device: kind (0 partial products, 1 finished blocks), column half, relative position. -/
abbrev Cp : Type := Fin 2 × Fin 2 × Fin 8
/-- The copy semaphores: a copy's send (0) or receive (1) semaphore. -/
abbrev Key : Type := Fin 2 × Cp

def dsem (k : Key) : DmaSem sig :=
  ⟨3 + 32 * k.2.1.val + 16 * k.1.val + 8 * k.2.2.1.val + k.2.2.2.val, by
    have := k.1.isLt; have := k.2.1.isLt; have := k.2.2.1.isLt; have := k.2.2.2.isLt
    show _ < 67
    omega⟩

/-- The copy whose semaphore this is; none for the three staging semaphores. -/
def dkey (s : DmaSem sig) : Option Key :=
  if 3 ≤ s.val then some (⟨(s.val - 3) / 16 % 2, Nat.mod_lt _ (by decide)⟩, ⟨(s.val - 3) / 32 % 2, Nat.mod_lt _ (by decide)⟩,
    ⟨(s.val - 3) / 8 % 2, Nat.mod_lt _ (by decide)⟩, ⟨(s.val - 3) % 8, Nat.mod_lt _ (by decide)⟩)
  else none

theorem dkey_dsem (k : Key) : dkey (dsem k) = some k := by revert k; decide +kernel

abbrev barS : Sem sig := (SemArray.scalar (sig.barrier 0 rfl) : Sems sig S_).sem

/-- The kernel's semaphores: the barrier and the copies'. -/
abbrev csem : Option Key → SemLoc sig
  | none => .reg barS
  | some k => .dma (dsem k)

abbrev cell (c : Dev nD) (o : Option Key) : GSem nD τ sig := ((c : Thread nD τ), csem o)
abbrev barCell (c : Dev nD) : GSem nD τ sig := cell c none
abbrev sendCell (c : Dev nD) (p : Cp) : GSem nD τ sig := cell c (some (0, p))
abbrev recvCell (c : Dev nD) (p : Cp) : GSem nD τ sig := cell c (some (1, p))

theorem csem_inj : Function.Injective csem := by
  intro a b h
  cases a with
  | none => cases b with
    | none => rfl
    | some k => cases h
  | some k => cases b with
    | none => cases h
    | some k' =>
      injection h with h
      have := congrArg dkey h
      rw [dkey_dsem, dkey_dsem] at this
      exact this

theorem cell_inj : Function.Injective (fun ck : Dev nD × Option Key => cell ck.1 ck.2) := by
  rintro ⟨c, k⟩ ⟨c', k'⟩ h
  have h1 : (c : Thread nD τ) = (c' : Thread nD τ) := congrArg Prod.fst h
  have h2 : csem k = csem k' := congrArg Prod.snd h
  have : c = c' := congrArg Prod.fst h1
  rw [this, csem_inj h2]

/-- The credit of one slot. -/
abbrev N : ℕ := (slotM rsM 0 0 (by decide)).view.dmaCredit
theorem N_pos : 0 < N := View.dmaCredit_pos _ (by decide)

/-! ## Slots held -/

def partPts (c : Dev nD) (h : Fin 2) (x : Fin 8) (f : Buf3 F) : sProp 𝕄 := (c : Thread nD τ).loc cc0_scratch0 ↦[slotSet h x]{fullShare} f
def rsPts (c : Dev nD) (h : Fin 2) (x : Fin 8) (f : Buf3 F) : sProp 𝕄 := (c : Thread nD τ).loc cc0_scratch1 ↦[slotSet h x]{fullShare} f
def agPts (c : Dev nD) (h : Fin 2) (x : Fin 8) (q : PosShare TreeShare) (f : Buf3 F) : sProp 𝕄 := (c : Thread nD τ).loc cc0_scratch2 ↦[slotSet h x]{q} f

/-- One of the eight pieces of a share: 0 stays with the device, piece `x` goes into the copy to `peer c x`. -/
abbrev piece (x : Fin 8) : PosShare TreeShare := Idealize.ShloMosaic.ShareLeaves.leaf 3 fullShare x

instance partPts_storable (c : Dev nD) (h x) (f : Buf3 F) : BI.Storable (upEmb : UEmb _ 𝕄) (partPts c h x f) := by unfold partPts; infer_instance
instance rsPts_storable (c : Dev nD) (h x) (f : Buf3 F) : BI.Storable (upEmb : UEmb _ 𝕄) (rsPts c h x f) := by unfold rsPts; infer_instance
instance agPts_storable (c : Dev nD) (h x q) (f : Buf3 F) : BI.Storable (upEmb : UEmb _ 𝕄) (agPts c h x q f) := by unfold agPts; infer_instance

/-- The landing slot of copy `p` on device `c`, at contents `f`; -/
def land (c : Dev nD) (p : Cp) (f : Buf3 F) : sProp 𝕄 :=
  if p.1 = 0 then rsPts c p.2.1 p.2.2 f else agPts c p.2.1 p.2.2 fullShare f
/-- the contents that it finally has; -/
def fin (c : Dev nD) (p : Cp) : Buf3 F := if p.1 = 0 then rsF A B c else agF A B c
/-- the source of copy `p` from device `c`. -/
def src (c : Dev nD) (p : Cp) : sProp 𝕄 :=
  if p.1 = 0 then partPts c p.2.1 p.2.2 (partF A B c) else agPts c p.2.1 0 (piece p.2.2) (agF A B c)

instance land_storable (c : Dev nD) (p : Cp) (f : Buf3 F) : BI.Storable (upEmb : UEmb _ 𝕄) (land c p f) := by
  unfold land; split <;> infer_instance
instance src_storable (c : Dev nD) (p : Cp) : BI.Storable (upEmb : UEmb _ 𝕄) (src A B c p) := by
  unfold src; split <;> infer_instance

/-- The slots on device `c` that its partner at `x` writes, at any contents. -/
def landing (c : Dev nD) (x : Fin 8) : sProp 𝕄 := bigSep Finset.univ fun kh : Fin 2 × Fin 2 => iprop(∃ f, land c (kh.1, kh.2, x) f)

instance landing_storable (c : Dev nD) (x : Fin 8) : BI.Storable (upEmb : UEmb _ 𝕄) (landing (F := F) c x) := by
  unfold landing; infer_instance

/-- The relative position of device `q` for device `c`. -/
def pos (c q : Dev nD) : Fin 8 := ⟨(c.val ^^^ q.val) % 8, Nat.mod_lt _ (by decide)⟩
theorem pos_peer (c : Dev nD) (x : Fin 8) : pos c (peer c x) = x := by revert c x; decide +kernel
theorem peer_pos (c q : Dev nD) : peer c (pos c q) = q := by revert c q; decide +kernel
theorem pos_comm (c q : Dev nD) : pos c q = pos q c := by revert c q; decide +kernel
theorem pos_eq_zero (c q : Dev nD) : pos c q = 0 ↔ q = c := by revert c q; decide +kernel

/-! ## The schedule -/

def isTc (g : GSem nD τ sig) : Prop := g.1.2 = .tc
instance (g : GSem nD τ sig) : Decidable (isTc g) := by unfold isTc; infer_instance

def sdDuties (c : Dev nD) : SemLoc sig → Finset (Fin 8)
  | .reg s => if s = barS then Finset.univ.erase c else ∅
  | .dma s => match dkey s with
    | some k => if k.2.2.2 = 0 then ∅ else {0}
    | none => ∅

def sdPay (c : Dev nD) (d : Fin 8) : SemLoc sig → sProp 𝕄
  | .reg s => landing (F := F) (d : Dev nD) (pos c d)
  | .dma s => match dkey s with
    | some k => if k.1 = 0 then src A B c k.2 else land c k.2 (fin A B c k.2)
    | none => iprop(emp)

def sdAmount : SemLoc sig → ℕ
  | .reg s => 1
  | .dma s => N

def Rd : Rounds.Schedule (GSem nD τ sig) (Fin 8) 𝕄 where
  duties g r := if r = 0 ∧ isTc g then sdDuties g.1.1 g.2 else ∅
  unitless _ := False
  amount g _ _ := sdAmount g.2
  payload g _ d := sdPay A B g.1.1 d g.2
  amount_pos g _ _ _ := by
    cases h : g.2 with
    | reg s => exact Nat.one_pos
    | dma s => exact N_pos

instance Rd_storable (g : GSem nD τ sig) (r : ℕ) (d : Fin 8) : BI.Storable (upEmb : UEmb _ 𝕄) ((Rd (F := F) A B).payload g r d) := by
  show BI.Storable upEmb (sdPay A B g.1.1 d g.2)
  unfold sdPay
  split
  · infer_instance
  · split
    · split <;> infer_instance
    · infer_instance

section Tables
variable (c : Dev nD) (p : Cp)

theorem duties_bar : (Rd (F := F) A B).duties (barCell c) 0 = Finset.univ.erase c := by
  show (if (0 = 0 ∧ isTc (barCell c)) then sdDuties c (.reg barS) else ∅) = _
  rw [if_pos ⟨rfl, rfl⟩]
  show (if barS = barS then Finset.univ.erase c else ∅ : Finset (Fin 8)) = _
  exact if_pos rfl
theorem duties_key (k : Key) (hk : k.2.2.2 ≠ 0) : (Rd (F := F) A B).duties (cell c (some k)) 0 = {0} := by
  show (if (0 = 0 ∧ isTc (cell c (some k))) then sdDuties c (.dma (dsem k)) else ∅) = _
  rw [if_pos ⟨rfl, rfl⟩]
  show (match dkey (dsem k) with | some k => if k.2.2.2 = 0 then ∅ else {0} | none => ∅ : Finset (Fin 8)) = _
  rw [dkey_dsem]; exact if_neg hk
theorem duties_key0 (k : Key) (hk : k.2.2.2 = 0) (r : ℕ) : (Rd (F := F) A B).duties (cell c (some k)) r = ∅ := by
  show (if (r = 0 ∧ isTc (cell c (some k))) then sdDuties c (.dma (dsem k)) else ∅) = _
  split
  · show (match dkey (dsem k) with | some k => if k.2.2.2 = 0 then ∅ else {0} | none => ∅ : Finset (Fin 8)) = _
    rw [dkey_dsem]; exact if_pos hk
  · rfl
theorem duties_later (g : GSem nD τ sig) : ∀ r, 1 ≤ r → (Rd (F := F) A B).duties g r = ∅ :=
  fun r hr => if_neg fun h => by omega

theorem amount_bar (d : Fin 8) : (Rd (F := F) A B).amount (barCell c) 0 d = 1 := rfl
theorem amount_key (k : Key) (d : Fin 8) : (Rd (F := F) A B).amount (cell c (some k)) 0 d = N := rfl

theorem expect_bar : (Rd (F := F) A B).expect (barCell c) 0 = 7 := by
  unfold Schedule.expect Schedule.amountOf
  rw [duties_bar, Finset.sum_congr rfl fun d _ => amount_bar A B c d, Finset.sum_const, Finset.card_erase_of_mem (Finset.mem_univ _), Finset.card_univ]
  rfl
theorem expect_key (k : Key) (hk : k.2.2.2 ≠ 0) : (Rd (F := F) A B).expect (cell c (some k)) 0 = N := by
  unfold Schedule.expect Schedule.amountOf; rw [duties_key A B c k hk, Finset.sum_singleton, amount_key]

theorem payload_bar (d : Fin 8) : (Rd (F := F) A B).payload (barCell c) 0 d = landing (F := F) (d : Dev nD) (pos c d) := rfl
theorem payload_send (d : Fin 8) : (Rd (F := F) A B).payload (sendCell c p) 0 d = src A B c p := by
  show sdPay A B c d (.dma (dsem (0, p))) = _
  unfold sdPay; simp only [dkey_dsem]; rfl
theorem payload_recv (d : Fin 8) : (Rd (F := F) A B).payload (recvCell c p) 0 d = land c p (fin A B c p) := by
  show sdPay A B c d (.dma (dsem (1, p))) = _
  unfold sdPay; simp only [dkey_dsem]; rfl

theorem rest_bar : bigSep ((Rd (F := F) A B).duties (barCell c) 0 \ ∅) (fun d => (Rd (F := F) A B).payload (barCell c) 0 d)
    = bigSep (Finset.univ.erase c) fun q : Dev nD => landing (F := F) q (pos c q) := by
  rw [Finset.sdiff_empty, duties_bar]; rfl
theorem rest_send (hp : p.2.2 ≠ 0) : bigSep ((Rd (F := F) A B).duties (sendCell c p) 0 \ ∅) (fun d => (Rd (F := F) A B).payload (sendCell c p) 0 d) = src A B c p := by
  rw [Finset.sdiff_empty, duties_key A B c (0, p) hp, bigSep_singleton, payload_send]
theorem rest_recv (hp : p.2.2 ≠ 0) : bigSep ((Rd (F := F) A B).duties (recvCell c p) 0 \ ∅) (fun d => (Rd (F := F) A B).payload (recvCell c p) 0 d) = land c p (fin A B c p) := by
  rw [Finset.sdiff_empty, duties_key A B c (1, p) hp, bigSep_singleton, payload_recv]

end Tables

/-! ## Dues and levels -/

/-- The dues of copy `p`: the credit of the partner's receive cell; -/
abbrev due (c : Dev nD) (p : Cp) : CellTallies nD τ sig Unit := tallyAt (recvCell (peer c p.2.2) p) () N
/-- of a set of copies; -/
def dues (c : Dev nD) (S : Finset Cp) : CellTallies nD τ sig Unit := ∑ p ∈ S, due c p
/-- of barrier signals. -/
def barDues (S : Finset (Dev nD)) : CellTallies nD τ sig Unit := ∑ q ∈ S, tallyAt (barCell q) () 1

/-- All copies of a device. -/
def allCp : Finset Cp := Finset.univ.filter fun p => p.2.2 ≠ 0

/-- What device `c` owes at launch. -/
def O₀ (c : Dev nD) : CellTallies nD τ sig Unit := dues c allCp + barDues (Finset.univ.erase c)

def L (g : GSem nD τ sig) : Finset Unit := if g.1.2 = .tc then {()} else ∅

def lvS : SemLoc sig → ℕ
  | .reg s => 1
  | .dma s => match dkey s with
    | some k => if k.1 = 0 then 0 else if k.2.1 = 0 then 2 else 3
    | none => 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := rfl
theorem lv_key (k : Key) : lvS (.dma (dsem k)) = if k.1 = 0 then 0 else if k.2.1 = 0 then 2 else 3 := by
  unfold lvS; simp only [dkey_dsem]

theorem dues_insert (c : Dev nD) (S : Finset Cp) (p : Cp) (h : p ∉ S) : dues c (insert p S) = dues c S + due c p := by
  unfold dues; rw [Finset.sum_insert h, add_comm]
theorem barDues_insert (S : Finset (Dev nD)) (q : Dev nD) (h : q ∉ S) : barDues (insert q S) = barDues S + tallyAt (barCell q) () 1 := by
  unfold barDues; rw [Finset.sum_insert h, add_comm]
theorem barDues_empty : barDues ∅ = 0 := rfl
theorem dues_empty (c : Dev nD) : dues c ∅ = 0 := rfl

theorem dues_pos {c : Dev nD} {S : Finset Cp} {g : GSem nD τ sig} {u : Unit} (h : 0 < dues c S g u) :
    ∃ p ∈ S, g = recvCell (peer c p.2.2) p := by
  unfold dues at h
  rw [Finset.sum_apply, Finsupp.finset_sum_apply] at h
  obtain ⟨p, hp, h⟩ := Finset.exists_ne_zero_of_sum_ne_zero (Nat.pos_iff_ne_zero.mp h)
  refine ⟨p, hp, ?_⟩
  rw [tallyAt_apply] at h
  by_contra hn
  rw [if_neg (fun h' => hn h'.1)] at h
  exact h rfl

theorem barDues_pos {S : Finset (Dev nD)} {g : GSem nD τ sig} {u : Unit} (h : 0 < barDues S g u) : ∃ q ∈ S, g = barCell q := by
  unfold barDues at h
  rw [Finset.sum_apply, Finsupp.finset_sum_apply] at h
  obtain ⟨p, hp, h⟩ := Finset.exists_ne_zero_of_sum_ne_zero (Nat.pos_iff_ne_zero.mp h)
  refine ⟨p, hp, ?_⟩
  rw [tallyAt_apply] at h
  by_contra hn
  rw [if_neg (fun h' => hn h'.1)] at h
  exact h rfl

/-- A device may wait for a cell below everything it owes. -/
theorem mayWait_lt (c : Dev nD) (sm : SemLoc sig) (O : CellTallies nD τ sig Unit) (b : ℕ) (hb : lvS sm ≤ b)
    (hO : ∀ g u, 0 < O g u → g.1.2 = .tc ∧ b < lv g ()) : (levAts L lv : sProp 𝕄) ⊢ MayWait (c : Thread nD τ) sm () O :=
  MayOwe.of_cut (L := L) (lev := lv) b (fun p hp => by rw [Finset.mem_singleton.mp hp, L_tc]; exact Finset.mem_singleton_self _)
    (fun g u hg => by
      show u ∈ (if g.1.2 = .tc then {()} else ∅ : Finset Unit)
      rw [if_pos (hO g u hg).1]; exact Finset.mem_singleton_self _)
    (fun p hp => by rw [Finset.mem_singleton.mp hp]; exact hb)
    (fun g u hg => (hO g u hg).2)

/-- A device may wait for a cell of level at most `b` while it owes copies whose receive cells are above `b`. -/
theorem mayWait_dues (c : Dev nD) (sm : SemLoc sig) (S : Finset Cp) (b : ℕ) (hb : lvS sm ≤ b) (hS : ∀ p ∈ S, b < if p.1 = 0 then 2 else 3) :
    (levAts L lv : sProp 𝕄) ⊢ MayWait (c : Thread nD τ) sm () (dues c S) := by
  refine mayWait_lt c sm _ b hb fun g u hg => ?_
  obtain ⟨p, hp, rfl⟩ := dues_pos hg
  refine ⟨rfl, ?_⟩
  show b < lvS (.dma (dsem (1, p)))
  rw [lv_key]
  exact hS p hp

/-- At launch a device may wait for the cells of level 0. -/
theorem mayWait_start (c : Dev nD) (sm : SemLoc sig) (hb : lvS sm = 0) (O : CellTallies nD τ sig Unit) (hO : O = O₀ c ∨ O = 0) :
    (levAts L lv : sProp 𝕄) ⊢ MayWait (c : Thread nD τ) sm () O := by
  rcases hO with rfl | rfl
  · refine mayWait_lt c sm _ 0 hb.le fun g u hg => ?_
    unfold O₀ at hg
    rw [Pi.add_apply, Finsupp.add_apply] at hg
    rcases Nat.eq_zero_or_pos (dues c allCp g u) with h0 | h0
    · rw [h0, Nat.zero_add] at hg
      obtain ⟨q, hq, rfl⟩ := barDues_pos hg
      exact ⟨rfl, Nat.one_pos⟩
    · obtain ⟨p, hp, rfl⟩ := dues_pos h0
      refine ⟨rfl, ?_⟩
      show 0 < lvS (.dma (dsem (1, p)))
      rw [lv_key]
      show 0 < if p.1 = 0 then 2 else 3
      split <;> decide
  · rw [MayWait_zero]; iintro -; iempintro

end Cert.XorProof

end
-- ==== Proof.State.lean ====
/-
# The state of one device's run, between two steps of the copies

After the barrier a device's run is a fixed sequence of 100 events on its 32 copies (kind, half, position): the copy
starts, its landing is waited for, its source is waited for; and the store of a finished block, which makes the
sources of the second kind's copies. What the device holds for a copy depends only on how many of the copy's events
have happened, so the whole state is a function of the number of events.
-/
module

public import proofs.«01_k».proof.Proof.Sched

@[expose] public section

noncomputable section

namespace Cert.XorProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (A : Dev nD → Vec F S512x256 .bf16) (B : Dev nD → Vec F S256x512 .bf16)

/-! ## The events -/

/-- The positions in the order of the copies and of the source waits; -/
def far : List (Fin 8) := [6, 2, 5, 7, 1, 3, 4]
/-- in the order of the landing waits. -/
def near : List (Fin 8) := [4, 3, 1, 7, 5, 2, 6]

def row (kd h : Fin 2) (l : List (Fin 8)) : List Cp := l.map fun x => (kd, h, x)

def evs : List Cp :=
  row 0 0 far ++ row 0 1 far
    ++ row 0 0 near ++ row 1 0 (List.finRange 8) ++ row 1 0 far
    ++ row 0 1 near ++ row 1 1 (List.finRange 8) ++ row 1 1 far
    ++ row 1 0 near ++ row 1 1 near
    ++ [0, 1].flatMap fun h => far.flatMap fun x => [(0, h, x), (1, h, x)]

/-- How far copy `p` is after `n` events. A copy of partial products is ready to start from the beginning. -/
def stage (n : ℕ) (p : Cp) : ℕ := (if p.1 = 0 then 1 else 0) + (evs.take n).count p

theorem stage_succ {n : ℕ} {p : Cp} (he : evs[n]? = some p) : stage (n + 1) = Function.update (stage n) p (stage n p + 1) := by
  funext q
  unfold stage
  rw [List.take_add_one, he, List.count_append]
  by_cases h : q = p
  · subst h; rw [Function.update_self]; simp; omega
  · rw [Function.update_of_ne h]
    have : List.count q (some p).toList = 0 := List.count_eq_zero.mpr (by simpa using h)
    rw [this, Nat.add_zero]

/-- The copies not started after `n` events. -/
def unsent (n : ℕ) : Finset Cp := allCp.filter fun p => stage n p ≤ 1

theorem unsent_succ {n : ℕ} {p : Cp} (he : evs[n]? = some p) (hs : 2 ≤ stage n p ∨ p.2.2 = 0 ∨ stage n p = 0) : unsent (n + 1) = unsent n := by
  unfold unsent
  rw [stage_succ he]
  refine Finset.filter_congr fun q hq => ?_
  by_cases h : q = p
  · subst h
    rw [Function.update_self]
    rcases hs with hs | hs | hs
    · omega
    · exact absurd hs (Finset.mem_filter.mp hq).2
    · omega
  · rw [Function.update_of_ne h]

theorem unsent_send {n : ℕ} {p : Cp} (he : evs[n]? = some p) (hs : stage n p = 1) (hx : p.2.2 ≠ 0) : unsent n = insert p (unsent (n + 1)) := by
  unfold unsent
  rw [stage_succ he]
  ext q
  rw [Finset.mem_insert, Finset.mem_filter, Finset.mem_filter]
  by_cases h : q = p
  · subst h
    rw [hs]
    exact ⟨fun _ => Or.inl rfl, fun _ => ⟨Finset.mem_filter.mpr ⟨Finset.mem_univ _, hx⟩, le_refl _⟩⟩
  · rw [Function.update_of_ne h]
    exact ⟨fun H => Or.inr H, fun H => H.resolve_left h⟩

theorem unsent_not_mem {n : ℕ} {p : Cp} (he : evs[n]? = some p) (hs : stage n p = 1) : p ∉ unsent (n + 1) := by
  unfold unsent
  rw [stage_succ he, Finset.mem_filter, Function.update_self, hs]
  omega

/-! ## What a device holds for a copy -/

section Items
variable (c : Dev nD) (p : Cp)

/-- The right to start the copy; -/
def tok : sProp 𝕄 := iprop(dutyTok ER (sendCell c p) 0 (0 : Fin 8) ∗ dutyTok ER (recvCell (peer c p.2.2) p) 0 (0 : Fin 8))
/-- the positions at the copy's two cells of this device and the credit of its landing. -/
def opn : sProp 𝕄 := iprop(atPos ER (recvCell c p) 0 ∅ 0 ∗ atPos ER (sendCell c p) 0 ∅ 0 ∗ cred (tallyAt (recvCell c p) () N))

/-- For a copy between two devices, after `k` events. -/
def item1 : ℕ → sProp 𝕄
  | 0 => iprop((tok c p ∗ opn c p) ∗ ∃ f, land (peer c p.2.2) p f)
  | 1 => iprop(src A B c p ∗ (tok c p ∗ opn c p) ∗ ∃ f, land (peer c p.2.2) p f)
  | 2 => iprop(opn c p ∗ cred (tallyAt (sendCell c p) () N))
  | 3 => iprop(land c p (fin A B c p) ∗ semVal (recvCell c p) 0 ∗ atPos ER (sendCell c p) 0 ∅ 0 ∗ cred (tallyAt (sendCell c p) () N))
  | _ => iprop(land c p (fin A B c p) ∗ semVal (recvCell c p) 0 ∗ src A B c p ∗ semVal (sendCell c p) 0)

/-- For position 0, the device's own slots: the partial products and the landing slot beside them; the finished block. -/
def own0 : ℕ → sProp 𝕄
  | 0 => iprop(∃ f, agPts c p.2.1 0 fullShare f)
  | _ => iprop(agPts c p.2.1 0 (piece 0) (agF A B c))
def item0 (k : ℕ) : sProp 𝕄 :=
  iprop((semVal (recvCell c p) 0 ∗ semVal (sendCell c p) 0)
    ∗ if p.1 = 0 then iprop(partPts c p.2.1 0 (partF A B c) ∗ ∃ f, rsPts c p.2.1 0 f) else own0 A B c p k)

def item (k : ℕ) : sProp 𝕄 := if p.2.2 = 0 then item0 A B c p k else item1 A B c p k

end Items

/-- The state of device `c` after `n` events. -/
def Run (c : Dev nD) (n : ℕ) : sProp 𝕄 :=
  iprop((∃ W, owes (c : Thread nD τ) (dues c (unsent n)) W) ∗ bigSep Finset.univ fun p : Cp => item A B c p (stage n p))

/-- One event: take what the device holds for the copy, give what it holds after. -/
theorem Run_event (c : Dev nD) {n : ℕ} {p : Cp} (he : evs[n]? = some p) :
    Run A B c n ⊢ iprop((∃ W, owes (c : Thread nD τ) (dues c (unsent n)) W) ∗ item A B c p (stage n p)
      ∗ ((∃ W, owes (c : Thread nD τ) (dues c (unsent (n + 1))) W) ∗ item A B c p (stage n p + 1) -∗ Run A B c (n + 1))) := by
  unfold Run
  rw [stage_succ he]
  iintro ⟨HO, HB⟩
  ihave H := (bigSep_univ_turn (fun (p : Cp) (k : ℕ) => item A B c p k) (stage n) p) $$ HB
  icases H with ⟨HI, Hc⟩
  isplitl [HO]; · iexact HO
  isplitl [HI]; · iexact HI
  iintro ⟨HO, HI⟩
  isplitl [HO]; · iexact HO
  ispecialize Hc $$ %(stage n p + 1)
  iapply Hc
  iexact HI

/-- The same with the resources spelled out. -/
theorem Run_event' (c : Dev nD) {n k : ℕ} {p : Cp} (he : evs[n]? = some p) (hs : stage n p = k) {O O' : CellTallies nD τ sig Unit} {X Y : sProp 𝕄}
    (hO : dues c (unsent n) = O) (hO' : dues c (unsent (n + 1)) = O') (hX : item A B c p k = X) (hY : item A B c p (k + 1) = Y) :
    Run A B c n ⊢ iprop((∃ W, owes (c : Thread nD τ) O W) ∗ X ∗ ((∃ W, owes (c : Thread nD τ) O' W) ∗ Y -∗ Run A B c (n + 1))) := by
  subst hs hO hO' hX hY
  exact Run_event A B c he

/-- A look at what the device holds for a copy. -/
theorem Run_look (c : Dev nD) (n : ℕ) (p : Cp) :
    Run A B c n ⊢ iprop(item A B c p (stage n p) ∗ (item A B c p (stage n p) -∗ Run A B c n)) := by
  unfold Run
  iintro ⟨HO, HB⟩
  ihave H := (bigSep_univ_update (Φ := fun p : Cp => item A B c p (stage n p)) (Ψ := fun p : Cp => item A B c p (stage n p)) p (fun _ _ => rfl)) $$ HB
  icases H with ⟨HI, Hc⟩
  isplitl [HI]; · iexact HI
  iintro HI
  isplitl [HO]; · iexact HO
  iapply Hc
  iexact HI

/-! ## The cells' invariants -/

/-- Every cell's invariant, that it is at round 0, and the levels. -/
def records (K : Dev nD × Option Key → ℕ) : sProp 𝕄 :=
  iprop((bigSep Finset.univ fun ck : Dev nD × Option Key =>
      iprop(cellInv ER (Rd A B) (K ck) (cell ck.1 ck.2) ∗ reached ER (cell ck.1 ck.2) 0)) ∗ levAts L lv)

instance records_persistent (K : Dev nD × Option Key → ℕ) : BI.Persistent (records A B K) := by
  unfold records; infer_instance

theorem records_at (K : Dev nD × Option Key → ℕ) (c : Dev nD) (o : Option Key) :
    records A B K ⊢ iprop(cellInv ER (Rd A B) (K (c, o)) (cell c o) ∗ reached ER (cell c o) 0) := by
  unfold records
  iintro ⟨H, -⟩
  have h : (bigSep Finset.univ fun ck : Dev nD × Option Key => (iprop(cellInv ER (Rd A B) (K ck) (cell ck.1 ck.2) ∗ reached ER (cell ck.1 ck.2) 0) : sProp 𝕄))
      ⊢ iprop(cellInv ER (Rd A B) (K (c, o)) (cell c o) ∗ reached ER (cell c o) 0) := bigSep_elim (Finset.mem_univ (c, o))
  iapply h
  iexact H

theorem records_lev (K : Dev nD × Option Key → ℕ) : records A B K ⊢ levAts L lv := by
  unfold records
  iintro ⟨-, H⟩
  iexact H

end Cert.XorProof

end
-- ==== Proof.Steps.lean ====
/-
# One rule per kind of event

Each rule takes the state after `m` events to the state after `m + 1`, at the program's own operation: the start of a
copy of partial products, the start of a copy of a finished block, the wait for a landing, the wait for a source.
The half and the position are given twice: as the numbers that the program's slices are made with, and as the key of
the copy.
-/
module

public import proofs.«01_k».proof.Proof.State

@[expose] public section

noncomputable section

namespace Cert.XorProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (A : Dev nD → Vec F S512x256 .bf16) (B : Dev nD → Vec F S256x512 .bf16)
variable (K : Dev nD × Option Key → ℕ)

abbrev 𝒱₀ : Variants := Variants.none

/-- The weakest precondition of a piece of the body on device `c`. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## The program's semaphores -/

abbrev InbSem (h x : ℕ) : Prop := ∀ a, (![h, x] : Fin 2 → Nat) a + S1x1.size a ≤ S2x8.size a

/-- Entry `(h, x)` of an array of copy semaphores, as the program names it. -/
abbrev semAt (s : DmaSems sig S2x8) (h x : ℕ) (i : InbSem h x) : DmaSem sig :=
  ((s.slice (Rect.unit (s := S2x8) ![h, x] S1x1.size i)).squeeze S_ squeezes_S1x1_S_).sem

theorem semAt_rsSend : ∀ (h : Fin 2) (x : Fin 8) (i : InbSem h x), semAt cc0_scratch3 h x i = dsem (0, 0, h, x) := by decide +kernel
theorem semAt_rsRecv : ∀ (h : Fin 2) (x : Fin 8) (i : InbSem h x), semAt cc0_scratch4 h x i = dsem (1, 0, h, x) := by decide +kernel
theorem semAt_agSend : ∀ (h : Fin 2) (x : Fin 8) (i : InbSem h x), semAt cc0_scratch5 h x i = dsem (0, 1, h, x) := by decide +kernel
theorem semAt_agRecv : ∀ (h : Fin 2) (x : Fin 8) (i : InbSem h x), semAt cc0_scratch6 h x i = dsem (1, 1, h, x) := by decide +kernel

/-! ## Slots as the program addresses them -/

theorem partPts_view (c : Dev nD) (h : Fin 2) (x : Fin 8) (i : InbSlot h x) (f : Buf3 F) :
    (partPts c h x f : sProp 𝕄) = ((slotM partM h x i).view.loc (c : Thread nD τ) ↦[(slotM partM h x i).view.set]{fullShare} f) := by
  unfold partPts; rw [slotM_set_part]
theorem rsPts_view (c : Dev nD) (h : Fin 2) (x : Fin 8) (i : InbSlot h x) (f : Buf3 F) :
    (rsPts c h x f : sProp 𝕄) = ((slotM rsM h x i).view.loc (c : Thread nD τ) ↦[(slotM rsM h x i).view.set]{fullShare} f) := by
  unfold rsPts; rw [slotM_set_rs]
theorem agPts_view (c : Dev nD) (h : Fin 2) (x : Fin 8) (q) (i : InbSlot h x) (f : Buf3 F) :
    (agPts c h x q f : sProp 𝕄) = ((slotM agM h x i).view.loc (c : Thread nD τ) ↦[(slotM agM h x i).view.set]{q} f) := by
  unfold agPts; rw [slotM_set_ag]

theorem rsPts_congr (c : Dev nD) (h : Fin 2) (x : Fin 8) (f g : Buf3 F) (H : ∀ k ∈ slotSet h x, f k = g k) : (rsPts c h x f : sProp 𝕄) = rsPts c h x g :=
  pointsTo_congr H
theorem agPts_congr (c : Dev nD) (h : Fin 2) (x : Fin 8) (q) (f g : Buf3 F) (H : ∀ k ∈ slotSet h x, f k = g k) : (agPts c h x q f : sProp 𝕄) = agPts c h x q g :=
  pointsTo_congr H

/-- The credit of every slot is the same number. -/
theorem credit_part (h x : ℕ) (i : InbSlot h x) : (slotM partM h x i).view.dmaCredit = N := rfl
theorem credit_rs (h x : ℕ) (i : InbSlot h x) : (slotM rsM h x i).view.dmaCredit = N := rfl
theorem credit_ag (h x : ℕ) (i : InbSlot h x) : (slotM agM h x i).view.dmaCredit = N := rfl

/-! ## Starting a copy -/

section Send
variable {c n : Dev nD} {m h x : ℕ} (h' : Fin 2) (x' : Fin 8)

/-- The start of the copy of partial products `(h, x)`. -/
theorem wp_send_rs (hh : h = h'.val) (hx : x = x'.val) (i i' : InbSlot h x) (is is' : InbSem h x) (hn : n = peer c x')
    (he : evs[m]? = some (0, h', x')) (hs : stage m (0, h', x') = 1) (hx0 : x' ≠ 0)
    {hsc : (slotM rsM h x i' : Memref sig (Dev.tc n : Thread nD τ).2.kind .vmem S64x256 .bf16).view.ref.isScScratch = false}
    {hsrc : (slotM partM h x i).view.WordExact} {hdst : (slotM rsM h x i').view.WordExact}
    {hsem : DmaTarget.Typed .vmem (.dma (semAt cc0_scratch4 h x is')) (.remote (Dev.tc n : Thread nD τ) (slotM rsM h x i') (.dma (semAt cc0_scratch3 h x is)) hsc)}
    {α : Type} {Q : α → sProp 𝕄} {k : PUnit → Prog (TpuEff nD τ sig (Elt F) Λ₀ .tc) α} :
    iprop(records A B K ∗ Run A B c m)
      ⊢ iprop((Run A B c (m + 1) -∗ WP c (k ⟨⟩) Q)
          -∗ WP c (.op (.enqueueDma (slotM partM h x i) (.remote (Dev.tc n : Thread nD τ) (slotM rsM h x i') (.dma (semAt cc0_scratch3 h x is)) hsc)
              (.dma (semAt cc0_scratch4 h x is')) hsrc hdst hsem) k) Q) := by
  subst hh hx hn
  revert hsem
  rw [semAt_rsSend, semAt_rsRecv]
  intro hsem
  iintro ⟨#HR, Hrun⟩ Hk
  ihave #Hs := (records_at A B K c (some (0, 0, h', x'))) $$ HR
  icases Hs with ⟨HIs, Hrs⟩
  ihave #Hv := (records_at A B K (peer c x') (some (1, 0, h', x'))) $$ HR
  icases Hv with ⟨HIv, Hrv⟩
  ihave H := (Run_event' A B c he hs (O := dues c (unsent (m + 1)) + due c (0, h', x')) (O' := dues c (unsent (m + 1)))
    (X := iprop(((slotM partM h' x' i).view.loc (c : Thread nD τ) ↦[(slotM partM h' x' i).view.set]{fullShare} partF A B c)
      ∗ ((dutyTok ER (sendCell c (0, h', x')) 0 (0 : Fin 8) ∗ dutyTok ER (recvCell (peer c x') (0, h', x')) 0 (0 : Fin 8)) ∗ opn c (0, h', x')) ∗ ∃ f, rsPts (peer c x') h' x' f))
    (Y := iprop(opn c (0, h', x') ∗ cred (tallyAt (sendCell c (0, h', x')) () N)))
    (by rw [unsent_send he hs hx0, dues_insert c _ _ (unsent_not_mem he hs)]) rfl
    ((if_neg hx0).trans (by
      show iprop(partPts c h' x' (partF A B c) ∗ (tok c (0, h', x') ∗ opn c (0, h', x')) ∗ ∃ f, rsPts (peer c x') h' x' f) = _
      rw [partPts_view c h' x' i]; rfl))
    (if_neg hx0)) $$ Hrun
  icases H with ⟨⟨%W, HO⟩, HI, Hc⟩
  icases HI with ⟨Hsrc, ⟨⟨Hts, Htv⟩, Hop⟩, ⟨%fd, Hdst⟩⟩
  ihave Hdst := (Entails.of_eq (rsPts_view (peer c x') h' x' i' fd)) $$ Hdst
  iapply (Rounds.wp_send_pointsTo 𝒱₀ ER (Rd A B) (c : Thread nD τ) none (c' := (peer c x' : Thread nD τ)) (κ₁ := K (c, some (0, 0, h', x'))) (κ₂ := K (peer c x', some (1, 0, h', x')))
      (src := slotM partM h' x' i) (dst := slotM rsM h' x' i') (r₁ := 0) (r₂ := 0) (d₁ := (0 : Fin 8)) (d₂ := (0 : Fin 8)) (fd := fd)
      (by rw [duties_key A B c (0, 0, h', x') hx0]; exact Finset.mem_singleton_self _)
      (by rw [duties_key A B (peer c x') (1, 0, h', x') hx0]; exact Finset.mem_singleton_self _)
      () () N rfl (amount_key A B c (0, 0, h', x') 0) (amount_key A B (peer c x') (1, 0, h', x') 0) (dues c (unsent (m + 1))) rfl (W := W)
      (by rw [payload_send]; exact Entails.of_eq (partPts_view c h' x' i (partF A B c)).symm)
      (by
        rw [payload_recv]
        refine Entails.of_eq ((rsPts_view (peer c x') h' x' i' _).symm.trans ?_)
        exact rsPts_congr _ _ _ _ _ fun k hk => (copy_rs h' x' i i' _ _ k hk).trans (rsF_at A B c h' x' k hk).symm))
    $$ [Hsrc Hdst HO Hts Htv]
  · isplitr; · iexact HIs
    isplitr; · iexact HIv
    isplitl [Hsrc]; · iexact Hsrc
    isplitl [Hdst]; · iexact Hdst
    isplitl [HO]; · iexact HO
    isplitl [Hts]; · iexact Hts
    isplitr; · iexact Hrs
    isplitl [Htv]; · iexact Htv
    iexact Hrv
  iintro ⟨Hcs, HO⟩
  iapply Hk
  iapply Hc
  isplitl [HO]; · iexists W; iexact HO
  isplitl [Hop]; · iexact Hop
  iexact Hcs

/-- The start of the copy of finished block `(h, x)`. -/
theorem wp_send_ag (hh : h = h'.val) (hx : x = x'.val) (i : InbSlot h 0) (i' : InbSlot h x) (is is' : InbSem h x) (hn : n = peer c x')
    (he : evs[m]? = some (1, h', x')) (hs : stage m (1, h', x') = 1) (hx0 : x' ≠ 0)
    {hsc : (slotM agM h x i' : Memref sig (Dev.tc n : Thread nD τ).2.kind .vmem S64x256 .bf16).view.ref.isScScratch = false}
    {hsrc : (slotM agM h 0 i).view.WordExact} {hdst : (slotM agM h x i').view.WordExact}
    {hsem : DmaTarget.Typed .vmem (.dma (semAt cc0_scratch6 h x is')) (.remote (Dev.tc n : Thread nD τ) (slotM agM h x i') (.dma (semAt cc0_scratch5 h x is)) hsc)}
    {α : Type} {Q : α → sProp 𝕄} {k : PUnit → Prog (TpuEff nD τ sig (Elt F) Λ₀ .tc) α} :
    iprop(records A B K ∗ Run A B c m)
      ⊢ iprop((Run A B c (m + 1) -∗ WP c (k ⟨⟩) Q)
          -∗ WP c (.op (.enqueueDma (slotM agM h 0 i) (.remote (Dev.tc n : Thread nD τ) (slotM agM h x i') (.dma (semAt cc0_scratch5 h x is)) hsc)
              (.dma (semAt cc0_scratch6 h x is')) hsrc hdst hsem) k) Q) := by
  subst hh hx hn
  revert hsem
  rw [semAt_agSend, semAt_agRecv]
  intro hsem
  iintro ⟨#HR, Hrun⟩ Hk
  ihave #Hs := (records_at A B K c (some (0, 1, h', x'))) $$ HR
  icases Hs with ⟨HIs, Hrs⟩
  ihave #Hv := (records_at A B K (peer c x') (some (1, 1, h', x'))) $$ HR
  icases Hv with ⟨HIv, Hrv⟩
  ihave H := (Run_event' A B c he hs (O := dues c (unsent (m + 1)) + due c (1, h', x')) (O' := dues c (unsent (m + 1)))
    (X := iprop(((slotM agM h' 0 i).view.loc (c : Thread nD τ) ↦[(slotM agM h' 0 i).view.set]{piece x'} agF A B c)
      ∗ ((dutyTok ER (sendCell c (1, h', x')) 0 (0 : Fin 8) ∗ dutyTok ER (recvCell (peer c x') (1, h', x')) 0 (0 : Fin 8)) ∗ opn c (1, h', x')) ∗ ∃ f, agPts (peer c x') h' x' fullShare f))
    (Y := iprop(opn c (1, h', x') ∗ cred (tallyAt (sendCell c (1, h', x')) () N)))
    (by rw [unsent_send he hs hx0, dues_insert c _ _ (unsent_not_mem he hs)]) rfl
    ((if_neg hx0).trans (by
      show iprop(agPts c h' 0 (piece x') (agF A B c) ∗ (tok c (1, h', x') ∗ opn c (1, h', x')) ∗ ∃ f, agPts (peer c x') h' x' fullShare f) = _
      rw [agPts_view c h' 0 (piece x') i]; rfl))
    (if_neg hx0)) $$ Hrun
  icases H with ⟨⟨%W, HO⟩, HI, Hc⟩
  icases HI with ⟨Hsrc, ⟨⟨Hts, Htv⟩, Hop⟩, ⟨%fd, Hdst⟩⟩
  ihave Hdst := (Entails.of_eq (agPts_view (peer c x') h' x' fullShare i' fd)) $$ Hdst
  iapply (Rounds.wp_send_pointsTo 𝒱₀ ER (Rd A B) (c : Thread nD τ) none (c' := (peer c x' : Thread nD τ)) (κ₁ := K (c, some (0, 1, h', x'))) (κ₂ := K (peer c x', some (1, 1, h', x')))
      (src := slotM agM h' 0 i) (dst := slotM agM h' x' i') (r₁ := 0) (r₂ := 0) (d₁ := (0 : Fin 8)) (d₂ := (0 : Fin 8)) (fd := fd)
      (by rw [duties_key A B c (0, 1, h', x') hx0]; exact Finset.mem_singleton_self _)
      (by rw [duties_key A B (peer c x') (1, 1, h', x') hx0]; exact Finset.mem_singleton_self _)
      () () N rfl (amount_key A B c (0, 1, h', x') 0) (amount_key A B (peer c x') (1, 1, h', x') 0) (dues c (unsent (m + 1))) rfl (W := W)
      (by rw [payload_send]; exact Entails.of_eq (agPts_view c h' 0 (piece x') i (agF A B c)).symm)
      (by
        rw [payload_recv]
        refine Entails.of_eq ((agPts_view (peer c x') h' x' fullShare i' _).symm.trans ?_)
        exact agPts_congr _ _ _ _ _ _ fun k hk => (copy_ag h' x' i i' _ _ k hk).trans (agF_at A B c h' x' k hk).symm))
    $$ [Hsrc Hdst HO Hts Htv]
  · isplitr; · iexact HIs
    isplitr; · iexact HIv
    isplitl [Hsrc]; · iexact Hsrc
    isplitl [Hdst]; · iexact Hdst
    isplitl [HO]; · iexact HO
    isplitl [Hts]; · iexact Hts
    isplitr; · iexact Hrs
    isplitl [Htv]; · iexact Htv
    iexact Hrv
  iintro ⟨Hcs, HO⟩
  iapply Hk
  iapply Hc
  isplitl [HO]; · iexists W; iexact HO
  isplitl [Hop]; · iexact Hop
  iexact Hcs

end Send

/-! ## Waiting -/

section Wait
variable {c : Dev nD} {m : ℕ} (p : Cp)

/-- The wait for a landing. -/
theorem wp_recv {w : TpuEff nD τ sig (Elt F) Λ₀ .tc PUnit}
    (hw : ∀ Q : PUnit → sProp 𝕄, wpE (defs₀ (F := F)) 𝒱₀ (c : Thread nD τ) none Set.univ w Q
      = waitSpec (c : Thread nD τ) Set.univ (.dma (dsem (1, p))) N Q)
    (he : evs[m]? = some p) (hs : stage m p = 2) (hx0 : p.2.2 ≠ 0)
    (hS : ∀ q ∈ unsent m, (if p.1 = 0 then 2 else 3) < if q.1 = 0 then 2 else 3)
    {α : Type} {Q : α → sProp 𝕄} {k : PUnit → Prog (TpuEff nD τ sig (Elt F) Λ₀ .tc) α} :
    iprop(records A B K ∗ Run A B c m)
      ⊢ iprop((Run A B c (m + 1) -∗ WP c (k ⟨⟩) Q) -∗ WP c (.op w k) Q) := by
  iintro ⟨#HR, Hrun⟩ Hk
  ihave #Hv := (records_at A B K c (some (1, p))) $$ HR
  icases Hv with ⟨HIv, -⟩
  ihave #Hlev := (records_lev A B K) $$ HR
  ihave H := (Run_event' A B c he hs (O := dues c (unsent m)) (O' := dues c (unsent m))
    (X := iprop((atPos ER (recvCell c p) 0 ∅ 0 ∗ atPos ER (sendCell c p) 0 ∅ 0 ∗ cred (tallyAt (recvCell c p) () N)) ∗ cred (tallyAt (sendCell c p) () N)))
    (Y := iprop(land c p (fin A B c p) ∗ semVal (recvCell c p) 0 ∗ atPos ER (sendCell c p) 0 ∅ 0 ∗ cred (tallyAt (sendCell c p) () N)))
    rfl (by rw [unsent_succ he (Or.inl hs.ge)]) (if_neg hx0) (if_neg hx0)) $$ Hrun
  icases H with ⟨⟨%W, HO⟩, HI, Hc⟩
  icases HI with ⟨⟨Hat, Has, Hcr⟩, Hcs⟩
  iapply (Rounds.wp_wait_rest_token 𝒱₀ ER (Rd A B) (c : Thread nD τ) none (κ := K (c, some (1, p)))
      hw (Set.mem_univ _) () (O := dues c (unsent m)) (W := W) (R := 0) (m := 0) (T := ∅)
      (by rw [Nat.zero_add]; exact (expect_key A B c (1, p) hx0).symm)) $$ [Hcr HO Hat]
  · isplitr; · iexact HIv
    isplitl [Hcr]; · iexact Hcr
    isplitl [HO]; · iexact HO
    isplitr
    · iapply (mayWait_dues c (.dma (dsem (1, p))) (unsent m) (if p.1 = 0 then 2 else 3) (by rw [lv_key]; exact le_refl _) hS)
      iexact Hlev
    iexact Hat
  iintro ⟨HO, Hat, -, Hpay⟩
  ihave Hland := (Entails.of_eq (rest_recv A B c p hx0)) $$ Hpay
  imod (Rounds.cell_close ER (Rd A B) (Set.mem_univ (K (c, some (1, p)))) (fun h => h) (R := 0 + 1) (duties_later A B (recvCell c p))) $$ [Hat] with Hz
  · isplitr; · iexact HIv
    iexact Hat
  iapply Hk
  iapply Hc
  isplitl [HO]; · iexists _; iexact HO
  isplitl [Hland]; · iexact Hland
  isplitl [Hz]; · iexact Hz
  isplitl [Has]; · iexact Has
  iexact Hcs

/-- The wait for a source. -/
theorem wp_back {w : TpuEff nD τ sig (Elt F) Λ₀ .tc PUnit}
    (hw : ∀ Q : PUnit → sProp 𝕄, wpE (defs₀ (F := F)) 𝒱₀ (c : Thread nD τ) none Set.univ w Q
      = waitSpec (c : Thread nD τ) Set.univ (.dma (dsem (0, p))) N Q)
    (he : evs[m]? = some p) (hs : stage m p = 3) (hx0 : p.2.2 ≠ 0)
    {α : Type} {Q : α → sProp 𝕄} {k : PUnit → Prog (TpuEff nD τ sig (Elt F) Λ₀ .tc) α} :
    iprop(records A B K ∗ Run A B c m)
      ⊢ iprop((Run A B c (m + 1) -∗ WP c (k ⟨⟩) Q) -∗ WP c (.op w k) Q) := by
  iintro ⟨#HR, Hrun⟩ Hk
  ihave #Hv := (records_at A B K c (some (0, p))) $$ HR
  icases Hv with ⟨HIv, -⟩
  ihave #Hlev := (records_lev A B K) $$ HR
  ihave H := (Run_event' A B c he hs (O := dues c (unsent m)) (O' := dues c (unsent m))
    (X := iprop(land c p (fin A B c p) ∗ semVal (recvCell c p) 0 ∗ atPos ER (sendCell c p) 0 ∅ 0 ∗ cred (tallyAt (sendCell c p) () N)))
    (Y := iprop(land c p (fin A B c p) ∗ semVal (recvCell c p) 0 ∗ src A B c p ∗ semVal (sendCell c p) 0))
    rfl (by rw [unsent_succ he (Or.inl (by omega))]) (if_neg hx0) (if_neg hx0)) $$ Hrun
  icases H with ⟨⟨%W, HO⟩, HI, Hc⟩
  icases HI with ⟨Hland, Hzv, Hat, Hcr⟩
  iapply (Rounds.wp_wait_rest_token 𝒱₀ ER (Rd A B) (c : Thread nD τ) none (κ := K (c, some (0, p)))
      hw (Set.mem_univ _) () (O := dues c (unsent m)) (W := W) (R := 0) (m := 0) (T := ∅)
      (by rw [Nat.zero_add]; exact (expect_key A B c (0, p) hx0).symm)) $$ [Hcr HO Hat]
  · isplitr; · iexact HIv
    isplitl [Hcr]; · iexact Hcr
    isplitl [HO]; · iexact HO
    isplitr
    · iapply (mayWait_dues c (.dma (dsem (0, p))) (unsent m) 0 (by rw [lv_key]; exact le_refl _) (fun q _ => by split <;> decide))
      iexact Hlev
    iexact Hat
  iintro ⟨HO, Hat, -, Hpay⟩
  ihave Hsrc := (Entails.of_eq (rest_send A B c p hx0)) $$ Hpay
  imod (Rounds.cell_close ER (Rd A B) (Set.mem_univ (K (c, some (0, p)))) (fun h => h) (R := 0 + 1) (duties_later A B (sendCell c p))) $$ [Hat] with Hz
  · isplitr; · iexact HIv
    iexact Hat
  iapply Hk
  iapply Hc
  isplitl [HO]; · iexists _; iexact HO
  isplitl [Hland]; · iexact Hland
  isplitl [Hzv]; · iexact Hzv
  isplitl [Hsrc]; · iexact Hsrc
  iexact Hz

end Wait

end Cert.XorProof

end
-- ==== Proof.Memory.lean ====
/-
# Waits, loads and stores between two states

The waits at the program's own operations; the loads of received slots; the store of a finished block, whose slot is
then shared out between the seven copies and the device; the load of a whole half of the finished blocks.
-/
module

public import proofs.«01_k».proof.Proof.Steps

@[expose] public section

noncomputable section

namespace Cert.XorProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (A : Dev nD → Vec F S512x256 .bf16) (B : Dev nD → Vec F S256x512 .bf16)
variable (K : Dev nD × Option Key → ℕ)

/-! ## Waits at the program's operations -/

section Wait
variable {c : Dev nD} {m h x : ℕ} (h' : Fin 2) (x' : Fin 8)

theorem wp_recv_rs (hh : h = h'.val) (hx : x = x'.val) (i : InbSlot h x) (is : InbSem h x)
    (he : evs[m]? = some (0, h', x')) (hs : stage m (0, h', x') = 2) (hx0 : x' ≠ 0)
    (hS : ∀ q ∈ unsent m, 2 < if q.1 = 0 then 2 else 3)
    {s : Memref sig .tc .vmem S64x256 .bf16} {hsrc : s.view.WordExact} {hdst : (slotM rsM h x i).view.WordExact}
    {α : Type} {Q : α → sProp 𝕄} {k : PUnit → Prog (TpuEff nD τ sig (Elt F) Λ₀ .tc) α} :
    iprop(records A B K ∗ Run A B c m) ⊢ iprop((Run A B c (m + 1) -∗ WP c (k ⟨⟩) Q)
      -∗ WP c (.op (.waitDma2 (semAt cc0_scratch4 h x is) s (slotM rsM h x i) hsrc hdst) k) Q) := by
  subst hh hx
  rw [semAt_rsRecv]
  have hw : ∀ Q : PUnit → sProp 𝕄, wpE (defs₀ (F := F)) 𝒱₀ (c : Thread nD τ) none Set.univ (.waitDma2 (dsem (1, 0, h', x')) s (slotM rsM h' x' i) hsrc hdst) Q
      = waitSpec (c : Thread nD τ) Set.univ (.dma (dsem (1, 0, h', x'))) N Q := fun Q => rfl
  exact wp_recv A B K (0, h', x') hw he hs hx0 hS

theorem wp_recv_ag (hh : h = h'.val) (hx : x = x'.val) (i : InbSlot h x) (is : InbSem h x)
    (he : evs[m]? = some (1, h', x')) (hs : stage m (1, h', x') = 2) (hx0 : x' ≠ 0) (hS : unsent m = ∅)
    {s : Memref sig .tc .vmem S64x256 .bf16} {hsrc : s.view.WordExact} {hdst : (slotM agM h x i).view.WordExact}
    {α : Type} {Q : α → sProp 𝕄} {k : PUnit → Prog (TpuEff nD τ sig (Elt F) Λ₀ .tc) α} :
    iprop(records A B K ∗ Run A B c m) ⊢ iprop((Run A B c (m + 1) -∗ WP c (k ⟨⟩) Q)
      -∗ WP c (.op (.waitDma2 (semAt cc0_scratch6 h x is) s (slotM agM h x i) hsrc hdst) k) Q) := by
  subst hh hx
  rw [semAt_agRecv]
  have hw : ∀ Q : PUnit → sProp 𝕄, wpE (defs₀ (F := F)) 𝒱₀ (c : Thread nD τ) none Set.univ (.waitDma2 (dsem (1, 1, h', x')) s (slotM agM h' x' i) hsrc hdst) Q
      = waitSpec (c : Thread nD τ) Set.univ (.dma (dsem (1, 1, h', x'))) N Q := fun Q => rfl
  exact wp_recv A B K (1, h', x') hw he hs hx0
    (fun q hq => absurd hq (hS ▸ Finset.notMem_empty q))

theorem wp_back_rs (hh : h = h'.val) (hx : x = x'.val) (i : InbSlot h x) (is : InbSem h x)
    (he : evs[m]? = some (0, h', x')) (hs : stage m (0, h', x') = 3) (hx0 : x' ≠ 0)
    {s : Memref sig .tc .vmem S64x256 .bf16} {hsrc : s.view.WordExact} {hdst : (slotM partM h x i).view.WordExact}
    {α : Type} {Q : α → sProp 𝕄} {k : PUnit → Prog (TpuEff nD τ sig (Elt F) Λ₀ .tc) α} :
    iprop(records A B K ∗ Run A B c m) ⊢ iprop((Run A B c (m + 1) -∗ WP c (k ⟨⟩) Q)
      -∗ WP c (.op (.waitDma2 (semAt cc0_scratch3 h x is) s (slotM partM h x i) hsrc hdst) k) Q) := by
  subst hh hx
  rw [semAt_rsSend]
  have hw : ∀ Q : PUnit → sProp 𝕄, wpE (defs₀ (F := F)) 𝒱₀ (c : Thread nD τ) none Set.univ (.waitDma2 (dsem (0, 0, h', x')) s (slotM partM h' x' i) hsrc hdst) Q
      = waitSpec (c : Thread nD τ) Set.univ (.dma (dsem (0, 0, h', x'))) N Q := fun Q => rfl
  exact wp_back A B K (0, h', x') hw he hs hx0

theorem wp_back_ag (hh : h = h'.val) (hx : x = x'.val) (i : InbSlot h 0) (is : InbSem h x)
    (he : evs[m]? = some (1, h', x')) (hs : stage m (1, h', x') = 3) (hx0 : x' ≠ 0)
    {s : Memref sig .tc .vmem S64x256 .bf16} {hsrc : s.view.WordExact} {hdst : (slotM agM h 0 i).view.WordExact}
    {α : Type} {Q : α → sProp 𝕄} {k : PUnit → Prog (TpuEff nD τ sig (Elt F) Λ₀ .tc) α} :
    iprop(records A B K ∗ Run A B c m) ⊢ iprop((Run A B c (m + 1) -∗ WP c (k ⟨⟩) Q)
      -∗ WP c (.op (.waitDma2 (semAt cc0_scratch5 h x is) s (slotM agM h 0 i) hsrc hdst) k) Q) := by
  subst hh hx
  rw [semAt_agSend]
  have hw : ∀ Q : PUnit → sProp 𝕄, wpE (defs₀ (F := F)) 𝒱₀ (c : Thread nD τ) none Set.univ (.waitDma2 (dsem (0, 1, h', x')) s (slotM agM h' 0 i) hsrc hdst) Q
      = waitSpec (c : Thread nD τ) Set.univ (.dma (dsem (0, 1, h', x'))) N Q := fun Q => rfl
  exact wp_back A B K (1, h', x') hw he hs hx0

end Wait

/-! ## Loads and stores of slots -/

section Slots
variable {c : Dev nD} (h' : Fin 2) (x' : Fin 8) {h x : ℕ}

theorem acc_part (i : InbSlot h' x') : (partM.access (slotRect h' x' i)).set = slotSet h' x' :=
  (View.set_slice_whole cc0_scratch0 (slotRect h' x' i)).trans (slotRect_set h' x' i)
theorem acc_rs (i : InbSlot h' x') : (rsM.access (slotRect h' x' i)).set = slotSet h' x' :=
  (View.set_slice_whole cc0_scratch1 (slotRect h' x' i)).trans (slotRect_set h' x' i)
theorem acc_ag (i : InbSlot h' x') : (agM.access (slotRect h' x' i)).set = slotSet h' x' :=
  (View.set_slice_whole cc0_scratch2 (slotRect h' x' i)).trans (slotRect_set h' x' i)
theorem accH_ag (i : InbHalf h') : (agM.access (halfRect h' i)).set = halfSet h' :=
  (View.set_slice_whole cc0_scratch2 (halfRect h' i)).trans (halfRect_set h' i)

theorem wp_load_part (hh : h = h'.val) (hx : x = x'.val) (i : InbSlot h x) (f : Buf3 F) {hl : partM.view.LoadsAt (slotRect h x i).toLoadRect}
    {α : Type} {Q : α → sProp 𝕄} {k : Vec F S1x1x64x256 .bf16 → Prog (TpuEff nD τ sig (Elt F) Λ₀ .tc) α} :
    (partPts c h' x' f : sProp 𝕄) ⊢ iprop((partPts c h' x' f -∗ WP c (k (slotv f h' x')) Q) -∗ WP c (.op (.load partM (slotRect h x i).toLoadRect hl) k) Q) := by
  subst hh hx
  unfold partPts
  rw [← readAt_part h' x' i f]
  exact wp_load_rect 𝒱₀ (c : Thread nD τ) none Set.univ (m := partM) (r := slotRect h' x' i) (by rw [acc_part])

theorem wp_load_slot (hh : h = h'.val) (hx : x = x'.val) (i : InbSlot h x) (f : Buf3 F) {hl : rsM.view.LoadsAt (slotRect h x i).toLoadRect}
    {α : Type} {Q : α → sProp 𝕄} {k : Vec F S1x1x64x256 .bf16 → Prog (TpuEff nD τ sig (Elt F) Λ₀ .tc) α} :
    (rsPts c h' x' f : sProp 𝕄) ⊢ iprop((rsPts c h' x' f -∗ WP c (k (slotv f h' x')) Q) -∗ WP c (.op (.load rsM (slotRect h x i).toLoadRect hl) k) Q) := by
  subst hh hx
  unfold rsPts
  rw [← readAt_rs h' x' i f]
  exact wp_load_rect 𝒱₀ (c : Thread nD τ) none Set.univ (m := rsM) (r := slotRect h' x' i) (by rw [acc_rs])

theorem wp_load_ag (hh : h = h'.val) (hx : x = x'.val) (i : InbSlot h x) (q) (f : Buf3 F) {hl : agM.view.LoadsAt (slotRect h x i).toLoadRect}
    {α : Type} {Q : α → sProp 𝕄} {k : Vec F S1x1x64x256 .bf16 → Prog (TpuEff nD τ sig (Elt F) Λ₀ .tc) α} :
    (agPts c h' x' q f : sProp 𝕄) ⊢ iprop((agPts c h' x' q f -∗ WP c (k (slotv f h' x')) Q) -∗ WP c (.op (.load agM (slotRect h x i).toLoadRect hl) k) Q) := by
  subst hh hx
  unfold agPts
  rw [← readAt_ag h' x' i f]
  exact wp_load_rect 𝒱₀ (c : Thread nD τ) none Set.univ (m := agM) (r := slotRect h' x' i) (by rw [acc_ag])

theorem wp_store_slot (hh : h = h'.val) (hx : x = x'.val) (i : InbSlot h x) (f : Buf3 F) (w : Vec F S1x1x64x256 .bf16)
    {hst : (rsM.access (slotRect h x i)).Stores Finset.univ} {hm}
    {α : Type} {Q : α → sProp 𝕄} {k : PUnit → Prog (TpuEff nD τ sig (Elt F) Λ₀ .tc) α} :
    (rsPts c h' x' f : sProp 𝕄) ⊢ iprop((rsPts c h' x' (fun j => w (inSlot j)) -∗ WP c (k ⟨⟩) Q)
      -∗ WP c (.op (.store rsM (slotRect h x i) w Finset.univ hst hm) k) Q) := by
  subst hh hx
  rw [← rsPts_congr c h' x' _ _ fun j hj => write_rs h' x' i f w j hj]
  exact wp_store 𝒱₀ (c : Thread nD τ) none Set.univ (m := rsM) (r := slotRect h' x' i) (Mk := Finset.univ) (by rw [View.setOn_univ, acc_rs])

theorem wp_store_ag (hh : h = h'.val) (hx : x = x'.val) (i : InbSlot h x) (f : Buf3 F) (w : Vec F S1x1x64x256 .bf16)
    {hst : (agM.access (slotRect h x i)).Stores Finset.univ} {hm}
    {α : Type} {Q : α → sProp 𝕄} {k : PUnit → Prog (TpuEff nD τ sig (Elt F) Λ₀ .tc) α} :
    (agPts c h' x' fullShare f : sProp 𝕄) ⊢ iprop((agPts c h' x' fullShare (fun j => w (inSlot j)) -∗ WP c (k ⟨⟩) Q)
      -∗ WP c (.op (.store agM (slotRect h x i) w Finset.univ hst hm) k) Q) := by
  subst hh hx
  rw [← agPts_congr c h' x' _ _ _ fun j hj => write_ag h' x' i f w j hj]
  exact wp_store 𝒱₀ (c : Thread nD τ) none Set.univ (m := agM) (r := slotRect h' x' i) (Mk := Finset.univ) (by rw [View.setOn_univ, acc_ag])

/-- A received slot is loaded. -/
theorem Run_load {m : ℕ} (hh : h = h'.val) (hx : x = x'.val) (i : InbSlot h x) (hs : stage m (0, h', x') = 3) (hx0 : x' ≠ 0)
    {hl : rsM.view.LoadsAt (slotRect h x i).toLoadRect}
    {α : Type} {Q : α → sProp 𝕄} {k : Vec F S1x1x64x256 .bf16 → Prog (TpuEff nD τ sig (Elt F) Λ₀ .tc) α} :
    Run A B c m ⊢ iprop((Run A B c m -∗ WP c (k (slotv (rsF A B c) h' x')) Q) -∗ WP c (.op (.load rsM (slotRect h x i).toLoadRect hl) k) Q) := by
  have e : item A B c (0, h', x') (stage m (0, h', x')) = iprop(rsPts c h' x' (rsF A B c) ∗ semVal (recvCell c (0, h', x')) 0
      ∗ atPos ER (sendCell c (0, h', x')) 0 ∅ 0 ∗ cred (tallyAt (sendCell c (0, h', x')) () N)) := by
    rw [hs]; exact if_neg hx0
  have look := Run_look A B c m (0, h', x')
  rw [e] at look
  iintro Hrun Hk
  ihave H := look $$ Hrun
  icases H with ⟨⟨Hs, Hrest⟩, Hc⟩
  iapply (wp_load_slot h' x' hh hx i (rsF A B c)) $$ Hs
  iintro Hs
  iapply Hk
  iapply Hc
  isplitl [Hs]; · iexact Hs
  iexact Hrest

/-- The device's own partial products go through the slot beside them: two loads, a store and a load. -/
theorem Run_own {m : ℕ} (hh : h = h'.val) (i i' i'' i''' : InbSlot h 0) (g : Vec F S1x1x64x256 .bf16 → FVec F S1x1x64x256 .bf16)
    {hl : partM.view.LoadsAt (slotRect h 0 i).toLoadRect} {hl' : rsM.view.LoadsAt (slotRect h 0 i').toLoadRect}
    {hst : (rsM.access (slotRect h 0 i'')).Stores Finset.univ} {hm} {hl'' : rsM.view.LoadsAt (slotRect h 0 i''').toLoadRect}
    {α : Type} {Q : α → sProp 𝕄} {k : Vec F S1x1x64x256 .bf16 → Prog (TpuEff nD τ sig (Elt F) Λ₀ .tc) α} :
    Run A B c m ⊢ iprop((Run A B c m -∗ WP c (k (g (slotv (partF A B c) h' 0))) Q)
      -∗ WP c (.op (.load partM (slotRect h 0 i).toLoadRect hl) fun v => .op (.load rsM (slotRect h 0 i').toLoadRect hl') fun _ =>
          .op (.store rsM (slotRect h 0 i'') (g v) Finset.univ hst hm) fun _ => .op (.load rsM (slotRect h 0 i''').toLoadRect hl'') k) Q) := by
  have e : item A B c (0, h', 0) (stage m (0, h', 0)) = iprop((semVal (recvCell c (0, h', 0)) 0 ∗ semVal (sendCell c (0, h', 0)) 0)
      ∗ partPts c h' 0 (partF A B c) ∗ ∃ f, rsPts c h' 0 f) := by
    unfold item; exact if_pos rfl
  have look := Run_look A B c m (0, h', 0)
  rw [e] at look
  iintro Hrun Hk
  ihave H := look $$ Hrun
  icases H with ⟨⟨Hz, Hp, ⟨%f, Hs⟩⟩, Hc⟩
  iapply (wp_load_part h' 0 hh rfl i (partF A B c)) $$ Hp
  iintro Hp
  iapply (wp_load_slot h' 0 hh rfl i' f) $$ Hs
  iintro Hs
  iapply (wp_store_slot h' 0 hh rfl i'' f (g (slotv (partF A B c) h' 0))) $$ Hs
  iintro Hs
  iapply (wp_load_slot h' 0 hh rfl i''' (fun j => g (slotv (partF A B c) h' 0) (inSlot j))) $$ Hs
  iintro Hs
  have er : slotv (fun j => g (slotv (partF A B c) h' 0) (inSlot j)) h' 0 = g (slotv (partF A B c) h' 0) :=
    funext fun j => congrArg _ (inSlot_slotIdx h' 0 j)
  rw [er]
  iapply Hk
  iapply Hc
  isplitl [Hz]; · iexact Hz
  isplitl [Hp]; · iexact Hp
  iexists _
  iexact Hs

end Slots

end Cert.XorProof

end
-- ==== Proof.Fill.lean ====
/-
# The finished block and the half of finished blocks in the state

The store of a finished block makes the sources of seven copies out of one slot; the load of a half reads the first
pieces of its eight slots. Both take the copies of one kind and half out of the state together.
-/
module

public import proofs.«01_k».proof.Proof.Memory

@[expose] public section

noncomputable section

namespace Cert.XorProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (A : Dev nD → Vec F S512x256 .bf16) (B : Dev nD → Vec F S256x512 .bf16)
variable (K : Dev nD × Option Key → ℕ)

/-! ## The copies of one kind and half, apart from the others -/

/-- The copies other than those of kind `kd` and half `h`. -/
def others (kd h : Fin 2) : Finset Cp := Finset.univ.filter fun p => ¬ (p.1 = kd ∧ p.2.1 = h)

def rowEmb (kd h : Fin 2) : Fin 8 ↪ Cp := ⟨fun x => (kd, h, x), fun a b e => congrArg (fun p : Cp => p.2.2) e⟩

theorem row_split (kd h : Fin 2) (Φ : Cp → sProp 𝕄) :
    bigSep Finset.univ Φ = iprop((bigSep Finset.univ fun x : Fin 8 => Φ (kd, h, x)) ∗ bigSep (others kd h) Φ) := by
  have e : (Finset.univ.filter fun p : Cp => p.1 = kd ∧ p.2.1 = h) = Finset.univ.map (rowEmb kd h) := by
    revert kd h; decide +kernel
  rw [bigSep_filter_split Finset.univ (fun p : Cp => p.1 = kd ∧ p.2.1 = h), e, bigSep_map]
  rfl

theorem emp_sep_eq (P : sProp 𝕄) : iprop(emp ∗ P) = P := BI.equiv_iff.mp BI.emp_sep
theorem sep_comm_eq (P Q : sProp 𝕄) : iprop(P ∗ Q) = iprop(Q ∗ P) := BI.equiv_iff.mp ⟨BI.sep_comm, BI.sep_comm⟩
theorem sep_assoc_eq (P Q R : sProp 𝕄) : iprop((P ∗ Q) ∗ R) = iprop(P ∗ Q ∗ R) := BI.equiv_iff.mp ⟨BI.sep_assoc, BI.sep_assoc'⟩

/-- A sum with one summand. -/
theorem bigSep_only {I : Type} [Fintype I] [DecidableEq I] (i : I) (Z : sProp 𝕄) :
    (bigSep Finset.univ fun x : I => if x = i then Z else iprop(emp)) = Z := by
  rw [bigSep_univ_at _ i, if_pos rfl, bigSep_congr (s := Finset.univ.erase i) fun x hx => (if_neg (Finset.ne_of_mem_erase hx) :
    (if x = i then Z else iprop(emp)) = iprop(emp)),
    show (bigSep (Finset.univ.erase i) fun _ => (iprop(emp) : sProp 𝕄)) = iprop(emp) from bigSep_emp_const _, sep_comm_eq, emp_sep_eq]

/-- The eight pieces of a slot. -/
theorem ag_pieces (c : Dev nD) (h : Fin 2) (x : Fin 8) (f : Buf3 F) :
    (agPts c h x fullShare f : sProp 𝕄) = bigSep Finset.univ fun y : Fin 8 => agPts c h x (piece y) f := by
  unfold agPts
  exact Idealize.ShloMosaic.ShareLeaves.pointsTo_leaves (ℓ := (c : Thread nD τ).loc cc0_scratch2) (slotSet h x) f 3 fullShare

/-- What goes with the finished block's pieces. -/
def besides (c : Dev nD) (h : Fin 2) (x : Fin 8) : sProp 𝕄 :=
  if x = 0 then iprop(semVal (recvCell c (1, h, x)) 0 ∗ semVal (sendCell c (1, h, x)) 0)
  else iprop((tok c (1, h, x) ∗ opn c (1, h, x)) ∗ ∃ f, land (F := F) (peer c x) (1, h, x) f)

theorem item_empty (c : Dev nD) (h : Fin 2) (x : Fin 8) :
    item A B c (1, h, x) 0 = iprop((if x = 0 then iprop(∃ f, agPts c h 0 fullShare f) else iprop(emp)) ∗ besides (F := F) c h x) := by
  unfold besides
  by_cases hx : x = 0
  · subst hx
    rw [if_pos rfl, if_pos rfl]
    refine (show item A B c (1, h, 0) 0 = iprop((semVal (recvCell c (1, h, 0)) 0 ∗ semVal (sendCell c (1, h, 0)) 0) ∗ ∃ f, agPts c h 0 fullShare f) from ?_).trans
      (sep_comm_eq _ _)
    exact if_pos rfl
  · rw [if_neg hx, if_neg hx, emp_sep_eq]
    exact if_neg hx

theorem item_full (c : Dev nD) (h : Fin 2) (x : Fin 8) :
    item A B c (1, h, x) 1 = iprop(agPts c h 0 (piece x) (agF A B c) ∗ besides (F := F) c h x) := by
  unfold besides
  by_cases hx : x = 0
  · subst hx
    rw [if_pos rfl]
    refine (show item A B c (1, h, 0) 1 = iprop((semVal (recvCell c (1, h, 0)) 0 ∗ semVal (sendCell c (1, h, 0)) 0) ∗ agPts c h 0 (piece 0) (agF A B c)) from ?_).trans
      (sep_comm_eq _ _)
    exact if_pos rfl
  · rw [if_neg hx]
    exact if_neg hx

/-- The slot of the finished block is filled: it comes at any contents and goes back in pieces at its final contents. -/
theorem Run_fill (c : Dev nD) (m : ℕ) (h : Fin 2) (h0 : ∀ x, stage m (1, h, x) = 0) (h1 : ∀ x, stage (m + 8) (1, h, x) = 1)
    (ho : ∀ p ∈ others 1 h, stage (m + 8) p = stage m p) (hu : unsent (m + 8) = unsent m) :
    Run A B c m ⊢ iprop((∃ f, agPts c h 0 fullShare f) ∗ (agPts c h 0 fullShare (agF A B c) -∗ Run A B c (m + 8))) := by
  have e0 : (bigSep Finset.univ fun p : Cp => item A B c p (stage m p))
      = iprop(((∃ f, agPts c h 0 fullShare f) ∗ bigSep Finset.univ fun x : Fin 8 => besides (F := F) c h x) ∗ bigSep (others 1 h) fun p : Cp => item A B c p (stage m p)) := by
    rw [row_split 1 h]
    congr 1
    rw [bigSep_congr (s := Finset.univ) fun x _ => (by rw [h0 x, item_empty] :
      item A B c (1, h, x) (stage m (1, h, x)) = iprop((if x = 0 then iprop(∃ f, agPts c h 0 fullShare f) else iprop(emp)) ∗ besides (F := F) c h x)),
      bigSep_sep', bigSep_only]
  have e1 : (bigSep Finset.univ fun p : Cp => item A B c p (stage (m + 8) p))
      = iprop((agPts c h 0 fullShare (agF A B c) ∗ bigSep Finset.univ fun x : Fin 8 => besides (F := F) c h x) ∗ bigSep (others 1 h) fun p : Cp => item A B c p (stage m p)) := by
    rw [row_split 1 h]
    congr 1
    · rw [bigSep_congr (s := Finset.univ) fun x _ => (by rw [h1 x, item_full] :
        item A B c (1, h, x) (stage (m + 8) (1, h, x)) = iprop(agPts c h 0 (piece x) (agF A B c) ∗ besides (F := F) c h x)), bigSep_sep', ← ag_pieces]
    · exact bigSep_congr fun p hp => by rw [ho p hp]
  unfold Run
  rw [e0, e1, hu]
  iintro ⟨HO, ⟨HX, HR⟩, HS⟩
  isplitl [HX]; · iexact HX
  iintro HY
  isplitl [HO]; · iexact HO
  isplitl [HY HR]
  · isplitl [HY] <;> iassumption
  iexact HS

/-! ## The finished blocks of a half -/

/-- What goes with the first pieces of the eight finished blocks. -/
def restOf (c : Dev nD) (h : Fin 2) (x : Fin 8) : sProp 𝕄 :=
  if x = 0 then iprop(semVal (recvCell c (1, h, x)) 0 ∗ semVal (sendCell c (1, h, x)) 0)
  else iprop((bigSep (Finset.univ.erase (0 : Fin 8)) fun y : Fin 8 => agPts c h x (piece y) (agF A B c))
    ∗ semVal (recvCell c (1, h, x)) 0 ∗ atPos ER (sendCell c (1, h, x)) 0 ∅ 0 ∗ cred (tallyAt (sendCell c (1, h, x)) () N))

theorem item_first (c : Dev nD) (h : Fin 2) (x : Fin 8) :
    item A B c (1, h, x) (if x = 0 then 1 else 3) = iprop(agPts c h x (piece 0) (agF A B c) ∗ restOf A B c h x) := by
  unfold restOf
  by_cases hx : x = 0
  · subst hx
    rw [if_pos rfl, if_pos rfl]
    refine (show item A B c (1, h, 0) 1 = iprop((semVal (recvCell c (1, h, 0)) 0 ∗ semVal (sendCell c (1, h, 0)) 0) ∗ agPts c h 0 (piece 0) (agF A B c)) from ?_).trans
      (sep_comm_eq _ _)
    exact if_pos rfl
  · rw [if_neg hx, if_neg hx]
    refine (if_neg hx).trans ?_
    show iprop(agPts c h x fullShare (agF A B c) ∗ semVal (recvCell c (1, h, x)) 0 ∗ atPos ER (sendCell c (1, h, x)) 0 ∅ 0 ∗ cred (tallyAt (sendCell c (1, h, x)) () N)) = _
    rw [ag_pieces, bigSep_univ_at _ (0 : Fin 8)]
    exact sep_assoc_eq _ _ _

theorem slots_half (h : Fin 2) : (Finset.univ.biUnion fun x : Fin 8 => slotSet h x) = halfSet h := by
  ext i
  simp only [Finset.mem_biUnion, Finset.mem_univ, true_and, mem_slotSet, mem_halfSet]
  exact ⟨fun ⟨x, H⟩ => H.1, fun H => ⟨i 1, H, rfl⟩⟩

theorem slots_disjoint (h : Fin 2) (x x' : Fin 8) (hne : x ≠ x') : Disjoint (slotSet h x) (slotSet h x') :=
  Finset.disjoint_left.mpr fun i hi hi' => hne (Fin.ext ((mem_slotSet.mp hi).2.symm.trans (mem_slotSet.mp hi').2))

/-- Half `h` of the finished blocks, at share `q`. -/
def agHalf (c : Dev nD) (h : Fin 2) (q : PosShare TreeShare) (f : Buf3 F) : sProp 𝕄 := (c : Thread nD τ).loc cc0_scratch2 ↦[halfSet h]{q} f

theorem ag_half (c : Dev nD) (h : Fin 2) (q) (f : Buf3 F) :
    (bigSep Finset.univ fun x : Fin 8 => agPts c h x q f : sProp 𝕄) = agHalf c h q f := by
  unfold agHalf agPts
  exact (pointsTo_biUnion (ℓ := (c : Thread nD τ).loc cc0_scratch2) Finset.univ (fun x : Fin 8 => slotSet h x)
    fun x _ x' _ hne => slots_disjoint h x x' hne).symm.trans (by rw [slots_half h])

/-- Once its blocks have all landed, a half can be looked at. -/
theorem Run_half (c : Dev nD) (m : ℕ) (h : Fin 2) (hs : ∀ x : Fin 8, stage m (1, h, x) = if x = 0 then 1 else 3) :
    Run A B c m ⊢ iprop(agHalf c h (piece 0) (agF A B c) ∗ (agHalf c h (piece 0) (agF A B c) -∗ Run A B c m)) := by
  have e : (bigSep Finset.univ fun p : Cp => item A B c p (stage m p))
      = iprop((agHalf c h (piece 0) (agF A B c) ∗ bigSep Finset.univ fun x : Fin 8 => restOf A B c h x) ∗ bigSep (others 1 h) fun p : Cp => item A B c p (stage m p)) := by
    rw [row_split 1 h]
    congr 1
    rw [bigSep_congr (s := Finset.univ) fun x _ => (by rw [hs x, item_first] :
      item A B c (1, h, x) (stage m (1, h, x)) = iprop(agPts c h x (piece 0) (agF A B c) ∗ restOf A B c h x)), bigSep_sep', ag_half]
  unfold Run
  rw [e]
  iintro ⟨HO, ⟨HX, HR⟩, HS⟩
  isplitl [HX]; · iexact HX
  iintro HY
  isplitl [HO]; · iexact HO
  isplitl [HY HR]
  · isplitl [HY] <;> iassumption
  iexact HS

end Cert.XorProof

end
-- ==== Proof.Moves.lean ====
/-
# Steps of a piece of the program

A piece of the body is proved from its end: each rule turns the state before an operation into the state after it.
-/
module

public import proofs.«01_k».proof.Proof.Fill

@[expose] public section

noncomputable section

namespace Cert.XorProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (A : Dev nD → Vec F S512x256 .bf16) (B : Dev nD → Vec F S256x512 .bf16)
variable (K : Dev nD × Option Key → ℕ)

/-- A piece of the body at the buffers and semaphores that it runs on. -/
abbrev onRefs {α : Type 1} (p : (arg0 : Memref sig .tc .vmem S512x256 .bf16) → arg0.IsWhole → (arg1 : Memref sig .tc .vmem S256x512 .bf16) → arg1.IsWhole
    → (arg2 : Memref sig .tc .vmem S512x512 .bf16) → arg2.IsWhole → (arg3 : Memref sig .tc .vmem S2x8x64x256 .bf16) → arg3.IsWhole
    → (arg4 : Memref sig .tc .vmem S2x8x64x256 .bf16) → arg4.IsWhole → (arg5 : Memref sig .tc .vmem S2x8x64x256 .bf16) → arg5.IsWhole
    → DmaSems sig S2x8 → DmaSems sig S2x8 → DmaSems sig S2x8 → DmaSems sig S2x8 → α) : α :=
  p aM (Memref.isWhole_whole _) bM (Memref.isWhole_whole _) oM (Memref.isWhole_whole _) partM (Memref.isWhole_whole _) rsM (Memref.isWhole_whole _)
    agM (Memref.isWhole_whole _) cc0_scratch3 cc0_scratch4 cc0_scratch5 cc0_scratch6

/-- The state after `m` events with the cells' records, and a rest `R`. -/
abbrev St (c : Dev nD) (m : ℕ) (R : sProp 𝕄) : sProp 𝕄 := iprop(records A B K ∗ Run A B c m ∗ R)

/-- One event. -/
theorem ev {c : Dev nD} {m m' : ℕ} {R : sProp 𝕄} {α : Type} {Q : α → sProp 𝕄} {p p' : Prog (TpuEff nD τ sig (Elt F) Λ₀ .tc) α}
    (H : iprop(records A B K ∗ Run A B c m) ⊢ iprop((Run A B c m' -∗ WP c p' Q) -∗ WP c p Q))
    (hk : St A B K c m' R ⊢ WP c p' Q) : St A B K c m R ⊢ WP c p Q := by
  unfold St
  iintro ⟨#HR, HRun, HF⟩
  ihave Hw := H $$ [HRun]
  · isplitr <;> iassumption
  iapply Hw
  iintro HRun
  iapply hk
  isplitr; · iexact HR
  isplitl [HRun] <;> iassumption

/-- One look at the state, or a store into it. -/
theorem lk {c : Dev nD} {m m' : ℕ} {R : sProp 𝕄} {α : Type} {Q : α → sProp 𝕄} {p p' : Prog (TpuEff nD τ sig (Elt F) Λ₀ .tc) α}
    (H : Run A B c m ⊢ iprop((Run A B c m' -∗ WP c p' Q) -∗ WP c p Q))
    (hk : St A B K c m' R ⊢ WP c p' Q) : St A B K c m R ⊢ WP c p Q := by
  refine ev A B K (m' := m') ?_ hk
  iintro ⟨#HR, HRun⟩
  iapply H
  iexact HRun

/-- A device that the program computes. -/
theorem dev_eq {f : Dev nD → ℕ} (hf : ∀ c, f c < nD) (x : Fin 8) (h : ∀ c, f c = (peer c x).val) (c : Dev nD) : (⟨f c, hf c⟩ : Dev nD) = peer c x :=
  Fin.ext (h c)

/-! ## The rules

The slot that an operation names is read off the program; that it is the next event of the sequence is decided. -/

theorem rs_send {c n : Dev nD} {m h x : ℕ} {R : sProp 𝕄} {α : Type} {Q : α → sProp 𝕄} {k : PUnit → Prog (TpuEff nD τ sig (Elt F) Λ₀ .tc) α}
    {i i' : InbSlot h x} {is is' : InbSem h x}
    {hsc : (slotM rsM h x i' : Memref sig (Dev.tc n : Thread nD τ).2.kind .vmem S64x256 .bf16).view.ref.isScScratch = false}
    {hsrc : (slotM partM h x i).view.WordExact} {hdst : (slotM rsM h x i').view.WordExact}
    {hsem : DmaTarget.Typed .vmem (.dma (semAt cc0_scratch4 h x is')) (.remote (Dev.tc n : Thread nD τ) (slotM rsM h x i') (.dma (semAt cc0_scratch3 h x is)) hsc)}
    (hk : St A B K c (m + 1) R ⊢ WP c (k ⟨⟩) Q)
    (hh : h < 2 := by decide) (hx : x < 8 := by decide) (hn : n = peer c ⟨x, hx⟩ := by exact dev_eq _ _ (by decide +kernel) _)
    (he : evs[m]? = some (0, ⟨h, hh⟩, ⟨x, hx⟩) := by decide +kernel) (hs : stage m (0, ⟨h, hh⟩, ⟨x, hx⟩) = 1 := by decide +kernel)
    (hx0 : (⟨x, hx⟩ : Fin 8) ≠ 0 := by decide) :
    St A B K c m R ⊢ WP c (.op (.enqueueDma (slotM partM h x i) (.remote (Dev.tc n : Thread nD τ) (slotM rsM h x i') (.dma (semAt cc0_scratch3 h x is)) hsc)
      (.dma (semAt cc0_scratch4 h x is')) hsrc hdst hsem) k) Q :=
  ev A B K (wp_send_rs A B K ⟨h, hh⟩ ⟨x, hx⟩ rfl rfl i i' is is' hn he hs hx0) hk

theorem ag_send {c n : Dev nD} {m h x : ℕ} {R : sProp 𝕄} {α : Type} {Q : α → sProp 𝕄} {k : PUnit → Prog (TpuEff nD τ sig (Elt F) Λ₀ .tc) α}
    {i : InbSlot h 0} {i' : InbSlot h x} {is is' : InbSem h x}
    {hsc : (slotM agM h x i' : Memref sig (Dev.tc n : Thread nD τ).2.kind .vmem S64x256 .bf16).view.ref.isScScratch = false}
    {hsrc : (slotM agM h 0 i).view.WordExact} {hdst : (slotM agM h x i').view.WordExact}
    {hsem : DmaTarget.Typed .vmem (.dma (semAt cc0_scratch6 h x is')) (.remote (Dev.tc n : Thread nD τ) (slotM agM h x i') (.dma (semAt cc0_scratch5 h x is)) hsc)}
    (hk : St A B K c (m + 1) R ⊢ WP c (k ⟨⟩) Q)
    (hh : h < 2 := by decide) (hx : x < 8 := by decide) (hn : n = peer c ⟨x, hx⟩ := by exact dev_eq _ _ (by decide +kernel) _)
    (he : evs[m]? = some (1, ⟨h, hh⟩, ⟨x, hx⟩) := by decide +kernel) (hs : stage m (1, ⟨h, hh⟩, ⟨x, hx⟩) = 1 := by decide +kernel)
    (hx0 : (⟨x, hx⟩ : Fin 8) ≠ 0 := by decide) :
    St A B K c m R ⊢ WP c (.op (.enqueueDma (slotM agM h 0 i) (.remote (Dev.tc n : Thread nD τ) (slotM agM h x i') (.dma (semAt cc0_scratch5 h x is)) hsc)
      (.dma (semAt cc0_scratch6 h x is')) hsrc hdst hsem) k) Q :=
  ev A B K (wp_send_ag A B K ⟨h, hh⟩ ⟨x, hx⟩ rfl rfl i i' is is' hn he hs hx0) hk

section Waits
variable {c : Dev nD} {m h x : ℕ} {s : Memref sig .tc .vmem S64x256 .bf16} {hsrc : s.view.WordExact}

theorem rs_recv {R : sProp 𝕄} {α : Type} {Q : α → sProp 𝕄} {k : PUnit → Prog (TpuEff nD τ sig (Elt F) Λ₀ .tc) α}
    {i : InbSlot h x} {is : InbSem h x} {hdst : (slotM rsM h x i).view.WordExact}
    (hk : St A B K c (m + 1) R ⊢ WP c (k ⟨⟩) Q) (hh : h < 2 := by decide) (hx : x < 8 := by decide)
    (he : evs[m]? = some (0, ⟨h, hh⟩, ⟨x, hx⟩) := by decide +kernel) (hs : stage m (0, ⟨h, hh⟩, ⟨x, hx⟩) = 2 := by decide +kernel)
    (hx0 : (⟨x, hx⟩ : Fin 8) ≠ 0 := by decide) (hS : ∀ q ∈ unsent m, 2 < (if q.1 = 0 then 2 else 3) := by decide +kernel) :
    St A B K c m R ⊢ WP c (.op (.waitDma2 (semAt cc0_scratch4 h x is) s (slotM rsM h x i) hsrc hdst) k) Q :=
  ev A B K (wp_recv_rs A B K ⟨h, hh⟩ ⟨x, hx⟩ rfl rfl i is he hs hx0 hS) hk

theorem ag_recv {R : sProp 𝕄} {α : Type} {Q : α → sProp 𝕄} {k : PUnit → Prog (TpuEff nD τ sig (Elt F) Λ₀ .tc) α}
    {i : InbSlot h x} {is : InbSem h x} {hdst : (slotM agM h x i).view.WordExact}
    (hk : St A B K c (m + 1) R ⊢ WP c (k ⟨⟩) Q) (hh : h < 2 := by decide) (hx : x < 8 := by decide)
    (he : evs[m]? = some (1, ⟨h, hh⟩, ⟨x, hx⟩) := by decide +kernel) (hs : stage m (1, ⟨h, hh⟩, ⟨x, hx⟩) = 2 := by decide +kernel)
    (hx0 : (⟨x, hx⟩ : Fin 8) ≠ 0 := by decide) (hS : unsent m = ∅ := by decide +kernel) :
    St A B K c m R ⊢ WP c (.op (.waitDma2 (semAt cc0_scratch6 h x is) s (slotM agM h x i) hsrc hdst) k) Q :=
  ev A B K (wp_recv_ag A B K ⟨h, hh⟩ ⟨x, hx⟩ rfl rfl i is he hs hx0 hS) hk

theorem rs_back {R : sProp 𝕄} {α : Type} {Q : α → sProp 𝕄} {k : PUnit → Prog (TpuEff nD τ sig (Elt F) Λ₀ .tc) α}
    {i : InbSlot h x} {is : InbSem h x} {hdst : (slotM partM h x i).view.WordExact}
    (hk : St A B K c (m + 1) R ⊢ WP c (k ⟨⟩) Q) (hh : h < 2 := by decide) (hx : x < 8 := by decide)
    (he : evs[m]? = some (0, ⟨h, hh⟩, ⟨x, hx⟩) := by decide +kernel) (hs : stage m (0, ⟨h, hh⟩, ⟨x, hx⟩) = 3 := by decide +kernel)
    (hx0 : (⟨x, hx⟩ : Fin 8) ≠ 0 := by decide) :
    St A B K c m R ⊢ WP c (.op (.waitDma2 (semAt cc0_scratch3 h x is) s (slotM partM h x i) hsrc hdst) k) Q :=
  ev A B K (wp_back_rs A B K ⟨h, hh⟩ ⟨x, hx⟩ rfl rfl i is he hs hx0) hk

theorem ag_back {R : sProp 𝕄} {α : Type} {Q : α → sProp 𝕄} {k : PUnit → Prog (TpuEff nD τ sig (Elt F) Λ₀ .tc) α}
    {i : InbSlot h 0} {is : InbSem h x} {hdst : (slotM agM h 0 i).view.WordExact}
    (hk : St A B K c (m + 1) R ⊢ WP c (k ⟨⟩) Q) (hh : h < 2 := by decide) (hx : x < 8 := by decide)
    (he : evs[m]? = some (1, ⟨h, hh⟩, ⟨x, hx⟩) := by decide +kernel) (hs : stage m (1, ⟨h, hh⟩, ⟨x, hx⟩) = 3 := by decide +kernel)
    (hx0 : (⟨x, hx⟩ : Fin 8) ≠ 0 := by decide) :
    St A B K c m R ⊢ WP c (.op (.waitDma2 (semAt cc0_scratch5 h x is) s (slotM agM h 0 i) hsrc hdst) k) Q :=
  ev A B K (wp_back_ag A B K ⟨h, hh⟩ ⟨x, hx⟩ rfl rfl i is he hs hx0) hk

end Waits

section Memory
variable {c : Dev nD} {m h x : ℕ}

theorem rs_load {R : sProp 𝕄} {α : Type} {Q : α → sProp 𝕄} {k : Vec F S1x1x64x256 .bf16 → Prog (TpuEff nD τ sig (Elt F) Λ₀ .tc) α}
    {i : InbSlot h x} {hl : rsM.view.LoadsAt (slotRect h x i).toLoadRect} (hh : h < 2) (hx : x < 8)
    (hk : St A B K c m R ⊢ WP c (k (slotv (rsF A B c) ⟨h, hh⟩ ⟨x, hx⟩)) Q)
    (hs : stage m (0, ⟨h, hh⟩, ⟨x, hx⟩) = 3 := by decide +kernel) (hx0 : (⟨x, hx⟩ : Fin 8) ≠ 0 := by decide) :
    St A B K c m R ⊢ WP c (.op (.load rsM (slotRect h x i).toLoadRect hl) k) Q :=
  lk A B K (Run_load A B ⟨h, hh⟩ ⟨x, hx⟩ rfl rfl i hs hx0) hk

theorem own_load {R : sProp 𝕄} {α : Type} {Q : α → sProp 𝕄} {k : Vec F S1x1x64x256 .bf16 → Prog (TpuEff nD τ sig (Elt F) Λ₀ .tc) α}
    {i₁ i₂ i₃ i₄ : InbSlot h 0} {g : Vec F S1x1x64x256 .bf16 → FVec F S1x1x64x256 .bf16}
    {hl : partM.view.LoadsAt (slotRect h 0 i₁).toLoadRect} {hl' : rsM.view.LoadsAt (slotRect h 0 i₂).toLoadRect}
    {hst : (rsM.access (slotRect h 0 i₃)).Stores Finset.univ} {hm} {hl'' : rsM.view.LoadsAt (slotRect h 0 i₄).toLoadRect} (hh : h < 2)
    (hk : St A B K c m R ⊢ WP c (k (g (slotv (partF A B c) ⟨h, hh⟩ 0))) Q) :
    St A B K c m R ⊢ WP c (.op (.load partM (slotRect h 0 i₁).toLoadRect hl) fun v => .op (.load rsM (slotRect h 0 i₂).toLoadRect hl') fun _ =>
      .op (.store rsM (slotRect h 0 i₃) (g v) Finset.univ hst hm) fun _ => .op (.load rsM (slotRect h 0 i₄).toLoadRect hl'') k) Q :=
  lk A B K (Run_own A B ⟨h, hh⟩ rfl i₁ i₂ i₃ i₄ g) hk

/-- The finished block is stored (the load before the store is not used). -/
theorem ag_store {R : sProp 𝕄} {α : Type} {Q : α → sProp 𝕄} {k : PUnit → Prog (TpuEff nD τ sig (Elt F) Λ₀ .tc) α}
    {i i' : InbSlot h 0} {w : Vec F S1x1x64x256 .bf16} {hl : agM.view.LoadsAt (slotRect h 0 i).toLoadRect}
    {hst : (agM.access (slotRect h 0 i')).Stores Finset.univ} {hm} (hh : h < 2) (hw : w = gel A B c ⟨h, hh⟩)
    (hk : St A B K c (m + 8) R ⊢ WP c (k ⟨⟩) Q)
    (h0 : ∀ x, stage m (1, ⟨h, hh⟩, x) = 0 := by decide +kernel) (h1 : ∀ x, stage (m + 8) (1, ⟨h, hh⟩, x) = 1 := by decide +kernel)
    (ho : ∀ p ∈ others 1 ⟨h, hh⟩, stage (m + 8) p = stage m p := by decide +kernel) (hu : unsent (m + 8) = unsent m := by decide +kernel) :
    St A B K c m R ⊢ WP c (.op (.load agM (slotRect h 0 i).toLoadRect hl) fun _ => .op (.store agM (slotRect h 0 i') w Finset.univ hst hm) k) Q := by
  refine lk A B K (m' := m + 8) (p' := k ⟨⟩) ?_ hk
  iintro Hrun Hk
  ihave H := (Run_fill A B c m ⟨h, hh⟩ h0 h1 ho hu) $$ Hrun
  icases H with ⟨⟨%f, Hs⟩, Hc⟩
  iapply (wp_load_ag ⟨h, hh⟩ 0 rfl rfl i fullShare f) $$ Hs
  iintro Hs
  iapply (wp_store_ag ⟨h, hh⟩ 0 rfl rfl i' f w) $$ Hs
  iintro Hs
  have e : (agPts c ⟨h, hh⟩ 0 fullShare (fun j => w (inSlot j)) : sProp 𝕄) = agPts c ⟨h, hh⟩ 0 fullShare (agF A B c) :=
    agPts_congr c ⟨h, hh⟩ 0 fullShare _ _ fun j hj => by rw [agF_own A B c ⟨h, hh⟩ j hj, hw]
  ihave Hs := (Entails.of_eq e) $$ Hs
  iapply Hk
  iapply Hc
  iexact Hs

/-- A half of the finished blocks is loaded. -/
theorem half_load {R : sProp 𝕄} {α : Type} {Q : α → sProp 𝕄} {k : Vec F S1x8x64x256 .bf16 → Prog (TpuEff nD τ sig (Elt F) Λ₀ .tc) α}
    {i : InbHalf h} {hl : agM.view.LoadsAt (halfRect h i).toLoadRect} (hh : h < 2)
    (hk : St A B K c m R ⊢ WP c (k (halfv (agF A B c) ⟨h, hh⟩)) Q)
    (hs : ∀ x : Fin 8, stage m (1, ⟨h, hh⟩, x) = (if x = 0 then 1 else 3) := by decide +kernel) :
    St A B K c m R ⊢ WP c (.op (.load agM (halfRect h i).toLoadRect hl) k) Q := by
  refine lk A B K (m' := m) (p' := k (halfv (agF A B c) ⟨h, hh⟩)) ?_ hk
  iintro Hrun Hk
  ihave H := (Run_half A B c m ⟨h, hh⟩ hs) $$ Hrun
  icases H with ⟨Hs, Hc⟩
  have hld : (agHalf c ⟨h, hh⟩ (piece 0) (agF A B c) : sProp 𝕄) ⊢ iprop((agHalf c ⟨h, hh⟩ (piece 0) (agF A B c) -∗ WP c (k (halfv (agF A B c) ⟨h, hh⟩)) Q)
      -∗ WP c (.op (.load agM (halfRect h i).toLoadRect hl) k) Q) := by
    unfold agHalf
    rw [← readHalf_ag ⟨h, hh⟩ i (agF A B c)]
    exact wp_load_rect 𝒱₀ (c : Thread nD τ) none Set.univ (m := agM) (r := halfRect h i) (by rw [accH_ag ⟨h, hh⟩ i])
  iapply hld $$ Hs
  iintro Hs
  iapply Hk
  iapply Hc
  iexact Hs

/-- The result's buffer of device `c`. -/
abbrev outAt (c : Dev nD) (f : (cc0_stg2_0 : Ref sig .tc).ty.Contents (Elt F)) : sProp 𝕄 := (c : Thread nD τ).loc cc0_stg2_0 ↦{fullShare} f

/-- A half of the result is stored (the load before the store is not used). -/
theorem out_store {R : sProp 𝕄} {α : Type} {Q : α → sProp 𝕄} {k : PUnit → Prog (TpuEff nD τ sig (Elt F) Λ₀ .tc) α}
    {f : (cc0_stg2_0 : Ref sig .tc).ty.Contents (Elt F)} {i i' : InbOut x} {w : Vec F S512x256 .bf16}
    {hl : oM.view.LoadsAt (outRect x i).toLoadRect} {hst : (oM.access (outRect x i')).Stores Finset.univ} {hm}
    (hk : St A B K c m iprop(outAt c ((oM.access (outRect x i')).write (Elt F) f w Finset.univ) ∗ R) ⊢ WP c (k ⟨⟩) Q) :
    St A B K c m iprop(outAt c f ∗ R)
      ⊢ WP c (.op (.load oM (outRect x i).toLoadRect hl) fun _ => .op (.store oM (outRect x i') w Finset.univ hst hm) k) Q := by
  unfold St
  iintro ⟨HR, Hrun, Ho, HF⟩
  iapply (wp_load 𝒱₀ (c : Thread nD τ) none Set.univ (m := oM) (Finset.subset_univ _)) $$ Ho
  iintro Ho
  iapply (wp_store 𝒱₀ (c : Thread nD τ) none Set.univ (m := oM) (r := outRect x i') (Mk := Finset.univ) (Finset.subset_univ _)) $$ Ho
  iintro Ho
  iapply hk
  isplitl [HR]; · iexact HR
  isplitl [Hrun]; · iexact Hrun
  isplitl [Ho] <;> iassumption

end Memory

end Cert.XorProof

end
-- ==== Proof.Pieces.lean ====
/-
# The pieces of the body after the barrier

Each piece of the printed body takes the state from one number of events to another; the pieces of one stage of the
algorithm are taken together.
-/
module

public import proofs.«01_k».proof.Proof.Moves

@[expose] public section

noncomputable section

namespace Cert.XorProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (A : Dev nD → Vec F S512x256 .bf16) (B : Dev nD → Vec F S256x512 .bf16)
variable (K : Dev nD × Option Key → ℕ)

/-- The piece `p` takes the state from `m` to `m'` events, with a result as `P` says. -/
def Lead {β : Type} (c : Dev nD) (p : Prog (TpuEff nD τ sig (Elt F) Λ₀ .tc) β) (m m' : ℕ) (P : β → Prop) : Prop :=
  ∀ (R : sProp 𝕄) (α : Type) (Q : α → sProp 𝕄) (k : β → Prog (TpuEff nD τ sig (Elt F) Λ₀ .tc) α),
    (∀ r, P r → St A B K c m' R ⊢ WP c (k r) Q) → St A B K c m R ⊢ WP c (p >>= k) Q

/-- The partial products are sent. -/
theorem sends_rs (c : Dev nD) :
    (∀ v, Lead A B K c (onRefs (k0_part4 (F := F)) c v) 1 3 fun _ => True)
    ∧ (∀ v, Lead A B K c (onRefs (k0_part5 (F := F)) c v) 3 6 fun _ => True)
    ∧ (∀ v w, Lead A B K c (onRefs (k0_part6 (F := F)) c v w) 6 8 fun _ => True)
    ∧ (∀ v w, Lead A B K c (onRefs (k0_part7 (F := F)) c v w) 8 10 fun _ => True)
    ∧ (∀ v, Lead A B K c (onRefs (k0_part8 (F := F)) c v) 10 12 fun _ => True) := by
  refine ⟨?_, ?_, ?_, ?_, ?_⟩ <;>
  (intros; intro R α Q k hk;
    simp only [k0_part4_eq_skeleton, k0_part4_skel, k0_part5_eq_skeleton, k0_part5_skel, k0_part6_eq_skeleton, k0_part6_skel,
      k0_part7_eq_skeleton, k0_part7_skel, k0_part8_eq_skeleton, k0_part8_skel, Prog.lift, Prog.bind_op, Prog.bind_ret, Prog.pure_eq_ret])
  · iterate 2 refine rs_send A B K ?_
    exact hk _ trivial
  · iterate 3 refine rs_send A B K ?_
    exact hk _ trivial
  · iterate 2 refine rs_send A B K ?_
    exact hk _ trivial
  · iterate 2 refine rs_send A B K ?_
    exact hk _ trivial
  · iterate 2 refine rs_send A B K ?_
    exact hk _ trivial

/-- The last two are sent, and the first half's sum begins. -/
theorem begin_sum0 (c : Dev nD) (v : BitVec 32) :
    Lead A B K c (onRefs (k0_part9 (F := F)) c v) 12 14 fun r => r.2 = k0_pay6 (k0_pay5 (slotv (partF A B c) 0 0)) := by
  intro R α Q k hk
  simp only [k0_part9_eq_skeleton, k0_part9_skel, Prog.lift, Prog.bind_op, Prog.bind_ret, Prog.pure_eq_ret]
  iterate 2 refine rs_send A B K ?_
  refine own_load A B K (by decide) ?_
  exact hk _ rfl

/-- The first half's partial products are received and summed. -/
theorem sum0 (c : Dev nD) :
    (∀ v w g, Lead A B K c (onRefs (k0_part10 (F := F)) v w g) 14 16 fun r => r = k0_pay7 g (slotv (rsF A B c) 0 4) (slotv (rsF A B c) 0 3))
    ∧ (∀ v w g, Lead A B K c (onRefs (k0_part11 (F := F)) v w g) 16 18 fun r => r = k0_pay8 g (slotv (rsF A B c) 0 1) (slotv (rsF A B c) 0 7))
    ∧ (∀ v w g, Lead A B K c (onRefs (k0_part12 (F := F)) v w g) 18 20 fun r => r = k0_pay9 g (slotv (rsF A B c) 0 5) (slotv (rsF A B c) 0 2)) := by
  refine ⟨?_, ?_, ?_⟩ <;>
  (intros; intro R α Q k hk;
    simp only [k0_part10_eq_skeleton, k0_part10_skel, k0_part11_eq_skeleton, k0_part11_skel, k0_part12_eq_skeleton, k0_part12_skel,
      Prog.lift, Prog.bind_op, Prog.bind_ret, Prog.pure_eq_ret])
  · iterate 2 (refine rs_recv A B K ?_; refine rs_load A B K (by decide) (by decide) ?_)
    exact hk _ rfl
  · iterate 2 (refine rs_recv A B K ?_; refine rs_load A B K (by decide) (by decide) ?_)
    exact hk _ rfl
  · iterate 2 (refine rs_recv A B K ?_; refine rs_load A B K (by decide) (by decide) ?_)
    exact hk _ rfl

/-- The first half's finished block is stored. -/
theorem finish0 (c : Dev nD) (v w : BitVec 32) (g : FVec F S64x256 .bf16) (hg : k0_pay10 g (slotv (rsF A B c) 0 6) = gel0 A B c) :
    Lead A B K c (onRefs (k0_part13 (F := F)) v w g) 20 29 fun _ => True := by
  intro R α Q k hk
  simp only [k0_part13_eq_skeleton, k0_part13_skel, Prog.lift, Prog.bind_op, Prog.bind_ret, Prog.pure_eq_ret]
  refine rs_recv A B K ?_
  refine rs_load A B K (by decide) (by decide) ?_
  refine ag_store A B K (by decide) hg ?_
  exact hk _ trivial

/-- It is sent. -/
theorem sends_ag0 (c : Dev nD) :
    (∀ v w u, Lead A B K c (onRefs (k0_part14 (F := F)) c v w u) 29 31 fun _ => True)
    ∧ (∀ v, Lead A B K c (onRefs (k0_part15 (F := F)) c v) 31 33 fun _ => True)
    ∧ (∀ v, Lead A B K c (onRefs (k0_part16 (F := F)) c v) 33 36 fun _ => True) := by
  refine ⟨?_, ?_, ?_⟩ <;>
  (intros; intro R α Q k hk;
    simp only [k0_part14_eq_skeleton, k0_part14_skel, k0_part15_eq_skeleton, k0_part15_skel, k0_part16_eq_skeleton, k0_part16_skel,
      Prog.lift, Prog.bind_op, Prog.bind_ret, Prog.pure_eq_ret])
  · iterate 2 refine ag_send A B K ?_
    exact hk _ trivial
  · iterate 2 refine ag_send A B K ?_
    exact hk _ trivial
  · iterate 3 refine ag_send A B K ?_
    exact hk _ trivial

/-- The second half's sum begins. -/
theorem begin_sum1 (c : Dev nD) (v w : BitVec 32) :
    Lead A B K c (onRefs (k0_part17 (F := F)) v w) 36 37 fun r => r = k0_pay12 (k0_pay11 (slotv (partF A B c) 1 0)) (slotv (rsF A B c) 1 4) := by
  intro R α Q k hk
  simp only [k0_part17_eq_skeleton, k0_part17_skel, Prog.lift, Prog.bind_op, Prog.bind_ret, Prog.pure_eq_ret]
  refine own_load A B K (by decide) ?_
  refine rs_recv A B K ?_
  refine rs_load A B K (by decide) (by decide) ?_
  exact hk _ rfl

/-- The second half's partial products are received and summed. -/
theorem sum1 (c : Dev nD) :
    (∀ v w g, Lead A B K c (onRefs (k0_part18 (F := F)) v w g) 37 39 fun r => r = k0_pay13 g (slotv (rsF A B c) 1 3) (slotv (rsF A B c) 1 1))
    ∧ (∀ v w g, Lead A B K c (onRefs (k0_part19 (F := F)) v w g) 39 41 fun r => r = k0_pay14 g (slotv (rsF A B c) 1 7) (slotv (rsF A B c) 1 5))
    ∧ (∀ v g, Lead A B K c (onRefs (k0_part20 (F := F)) v g) 41 43 fun r =>
        r = ⟨k0_pay16 g (slotv (rsF A B c) 1 2) (slotv (rsF A B c) 1 6), k0_pay17 g (slotv (rsF A B c) 1 2) (slotv (rsF A B c) 1 6), k0_pay18⟩) := by
  refine ⟨?_, ?_, ?_⟩ <;>
  (intros; intro R α Q k hk;
    simp only [k0_part18_eq_skeleton, k0_part18_skel, k0_part19_eq_skeleton, k0_part19_skel, k0_part20_eq_skeleton, k0_part20_skel,
      Prog.lift, Prog.bind_op, Prog.bind_ret, Prog.pure_eq_ret])
  · iterate 2 (refine rs_recv A B K ?_; refine rs_load A B K (by decide) (by decide) ?_)
    exact hk _ rfl
  · iterate 2 (refine rs_recv A B K ?_; refine rs_load A B K (by decide) (by decide) ?_)
    exact hk _ rfl
  · iterate 2 (refine rs_recv A B K ?_; refine rs_load A B K (by decide) (by decide) ?_)
    exact hk _ rfl

/-- The second half's finished block is stored and sent once. -/
theorem finish1 (c : Dev nD) (v : BitVec 32) (g g' g'' : FVec F S64x256 .f32) (hg : k0_pay19 g g' g'' = gel1 A B c) :
    Lead A B K c (onRefs (k0_part21 (F := F)) c v g g' g'') 43 52 fun _ => True := by
  intro R α Q k hk
  simp only [k0_part21_eq_skeleton, k0_part21_skel, Prog.lift, Prog.bind_op, Prog.bind_ret, Prog.pure_eq_ret]
  refine ag_store A B K (by decide) hg ?_
  refine ag_send A B K ?_
  exact hk _ trivial

/-- It is sent to the others, and the first half's blocks are received. -/
theorem sends_ag1 (c : Dev nD) :
    (∀ v, Lead A B K c (onRefs (k0_part22 (F := F)) c v) 52 54 fun _ => True)
    ∧ (∀ v, Lead A B K c (onRefs (k0_part23 (F := F)) c v) 54 57 fun _ => True)
    ∧ (∀ v w u, Lead A B K c (onRefs (k0_part24 (F := F)) c v w u) 57 59 fun _ => True)
    ∧ (∀ v w, Lead A B K c (onRefs (k0_part25 (F := F)) v w) 59 62 fun _ => True)
    ∧ (∀ v w u, Lead A B K c (onRefs (k0_part26 (F := F)) v w u) 62 64 fun _ => True) := by
  refine ⟨?_, ?_, ?_, ?_, ?_⟩ <;>
  (intros; intro R α Q k hk;
    simp only [k0_part22_eq_skeleton, k0_part22_skel, k0_part23_eq_skeleton, k0_part23_skel, k0_part24_eq_skeleton, k0_part24_skel,
      k0_part25_eq_skeleton, k0_part25_skel, k0_part26_eq_skeleton, k0_part26_skel, Prog.lift, Prog.bind_op, Prog.bind_ret, Prog.pure_eq_ret])
  · iterate 2 refine ag_send A B K ?_
    exact hk _ trivial
  · iterate 3 refine ag_send A B K ?_
    exact hk _ trivial
  · refine ag_send A B K ?_
    refine ag_recv A B K ?_
    exact hk _ trivial
  · iterate 3 refine ag_recv A B K ?_
    exact hk _ trivial
  · iterate 2 refine ag_recv A B K ?_
    exact hk _ trivial

/-- The first half of the result is stored. -/
theorem result0 (c : Dev nD) {R : sProp 𝕄} {α : Type} {Q : α → sProp 𝕄} {k : PUnit → Prog (TpuEff nD τ sig (Elt F) Λ₀ .tc) α}
    (f : (cc0_stg2_0 : Ref sig .tc).ty.Contents (Elt F))
    (hk : ∀ i : InbOut 0, St A B K c 65 iprop(outAt c ((oM.access (outRect 0 i)).write (Elt F) f (outLo A B c) Finset.univ) ∗ R) ⊢ WP c (k ⟨⟩) Q) :
    St A B K c 64 iprop(outAt c f ∗ R) ⊢ WP c (onRefs (k0_part27 (F := F)) (word c) >>= k) Q := by
  simp only [k0_part27_eq_skeleton, k0_part27_skel, Prog.lift, Prog.bind_op, Prog.bind_ret, Prog.pure_eq_ret]
  refine ag_recv A B K ?_
  refine half_load A B K (by decide) ?_
  refine out_store A B K ?_
  exact hk _

/-- The second half's blocks are received and loaded. -/
theorem receives_ag1 (c : Dev nD) :
    (∀ v w u, Lead A B K c (onRefs (k0_part28 (F := F)) v w u) 65 67 fun _ => True)
    ∧ (∀ v w, Lead A B K c (onRefs (k0_part29 (F := F)) v w) 67 70 fun _ => True)
    ∧ (∀ v w, Lead A B K c (onRefs (k0_part30 (F := F)) (word c) v w) 70 72 fun r => r = ⟨k0_pay21 (word c) (halfv (agF A B c) 1), 2#32⟩) := by
  refine ⟨?_, ?_, ?_⟩ <;>
  (intros; intro R α Q k hk;
    simp only [k0_part28_eq_skeleton, k0_part28_skel, k0_part29_eq_skeleton, k0_part29_skel, k0_part30_eq_skeleton, k0_part30_skel,
      Prog.lift, Prog.bind_op, Prog.bind_ret, Prog.pure_eq_ret])
  · iterate 2 refine ag_recv A B K ?_
    exact hk _ trivial
  · iterate 3 refine ag_recv A B K ?_
    exact hk _ trivial
  · iterate 2 refine ag_recv A B K ?_
    refine half_load A B K (by decide) ?_
    exact hk _ rfl

/-- The second half of the result is stored. -/
theorem result1 (c : Dev nD) {R : sProp 𝕄} {α : Type} {Q : α → sProp 𝕄} {k : PUnit → Prog (TpuEff nD τ sig (Elt F) Λ₀ .tc) α}
    (f : (cc0_stg2_0 : Ref sig .tc).ty.Contents (Elt F))
    (hk : ∀ i : InbOut 256, St A B K c 73 iprop(outAt c ((oM.access (outRect 256 i)).write (Elt F) f (outHi A B c) Finset.univ) ∗ R) ⊢ WP c (k ⟨⟩) Q) :
    St A B K c 72 iprop(outAt c f ∗ R) ⊢ WP c (onRefs (k0_part31 (F := F)) (word c) (k0_pay21 (word c) (halfv (agF A B c) 1)) 2#32 >>= k) Q := by
  simp only [k0_part31_eq_skeleton, k0_part31_skel, Prog.lift, Prog.bind_op, Prog.bind_ret, Prog.pure_eq_ret]
  refine out_store A B K ?_
  refine rs_back A B K ?_
  exact hk _

/-- The sources of the copies are waited for. -/
theorem backs (c : Dev nD) :
    Lead A B K c (onRefs (k0_part32 (F := F))) 73 76 (fun _ => True)
    ∧ Lead A B K c (onRefs (k0_part33 (F := F))) 76 79 (fun _ => True)
    ∧ Lead A B K c (onRefs (k0_part34 (F := F))) 79 82 (fun _ => True)
    ∧ Lead A B K c (onRefs (k0_part35 (F := F))) 82 85 (fun _ => True)
    ∧ Lead A B K c (onRefs (k0_part36 (F := F))) 85 88 (fun _ => True)
    ∧ Lead A B K c (onRefs (k0_part37 (F := F))) 88 91 (fun _ => True)
    ∧ Lead A B K c (onRefs (k0_part38 (F := F))) 91 94 (fun _ => True)
    ∧ Lead A B K c (onRefs (k0_part39 (F := F))) 94 97 (fun _ => True) := by
  refine ⟨?_, ?_, ?_, ?_, ?_, ?_, ?_, ?_⟩ <;>
  (intros; intro R α Q k hk;
    simp only [k0_part32_eq_skeleton, k0_part32_skel, k0_part33_eq_skeleton, k0_part33_skel, k0_part34_eq_skeleton, k0_part34_skel,
      k0_part35_eq_skeleton, k0_part35_skel, k0_part36_eq_skeleton, k0_part36_skel, k0_part37_eq_skeleton, k0_part37_skel,
      k0_part38_eq_skeleton, k0_part38_skel, k0_part39_eq_skeleton, k0_part39_skel, Prog.lift, Prog.bind_op, Prog.bind_ret, Prog.pure_eq_ret])
  · refine ag_back A B K ?_
    refine rs_back A B K ?_
    refine ag_back A B K ?_
    exact hk _ trivial
  · refine rs_back A B K ?_
    refine ag_back A B K ?_
    refine rs_back A B K ?_
    exact hk _ trivial
  · refine ag_back A B K ?_
    refine rs_back A B K ?_
    refine ag_back A B K ?_
    exact hk _ trivial
  · refine rs_back A B K ?_
    refine ag_back A B K ?_
    refine rs_back A B K ?_
    exact hk _ trivial
  · refine ag_back A B K ?_
    refine rs_back A B K ?_
    refine ag_back A B K ?_
    exact hk _ trivial
  · refine rs_back A B K ?_
    refine ag_back A B K ?_
    refine rs_back A B K ?_
    exact hk _ trivial
  · refine ag_back A B K ?_
    refine rs_back A B K ?_
    refine ag_back A B K ?_
    exact hk _ trivial
  · refine rs_back A B K ?_
    refine ag_back A B K ?_
    refine rs_back A B K ?_
    exact hk _ trivial

end Cert.XorProof

end
-- ==== Proof.Ends.lean ====
/-
# The two ends of the sequence of copies

Before the first copy a device has its partial products, the landing slots its partners gave it, the tokens of its copies
and the positions at its cells; after the last wait it has its three scratch buffers whole and its cells closed.
-/
module

public import proofs.«01_k».proof.Proof.Pieces

@[expose] public section

noncomputable section

namespace Cert.XorProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (A : Dev nD → Vec F S512x256 .bf16) (B : Dev nD → Vec F S256x512 .bf16)
variable (K : Dev nD × Option Key → ℕ)

/-! ## Whole buffers and their slots -/

theorem slots_all : (Finset.univ.biUnion fun hx : Fin 2 × Fin 8 => slotSet hx.1 hx.2) = Finset.univ := by
  ext i
  simp only [Finset.mem_biUnion, Finset.mem_univ, true_and, mem_slotSet, iff_true]
  exact ⟨(i 0, i 1), rfl, rfl⟩

theorem slots_apart (t t' : Fin 2 × Fin 8) (hne : t ≠ t') : Disjoint (slotSet t.1 t.2) (slotSet t'.1 t'.2) :=
  Finset.disjoint_left.mpr fun i hi hi' => hne (Prod.ext (Fin.ext ((mem_slotSet.mp hi).1.symm.trans (mem_slotSet.mp hi').1))
    (Fin.ext ((mem_slotSet.mp hi).2.symm.trans (mem_slotSet.mp hi').2)))

theorem part_slots (c : Dev nD) (f : Buf3 F) :
    ((c : Thread nD τ).loc cc0_scratch0 ↦{fullShare} f : sProp 𝕄) = bigSep Finset.univ fun hx : Fin 2 × Fin 8 => partPts c hx.1 hx.2 f := by
  unfold partPts
  exact Eq.trans (by rw [slots_all]) (pointsTo_biUnion (ℓ := (c : Thread nD τ).loc cc0_scratch0) Finset.univ (fun hx : Fin 2 × Fin 8 => slotSet hx.1 hx.2)
    fun t _ t' _ hne => slots_apart t t' hne)
theorem rs_slots (c : Dev nD) (f : Buf3 F) :
    ((c : Thread nD τ).loc cc0_scratch1 ↦{fullShare} f : sProp 𝕄) = bigSep Finset.univ fun hx : Fin 2 × Fin 8 => rsPts c hx.1 hx.2 f := by
  unfold rsPts
  exact Eq.trans (by rw [slots_all]) (pointsTo_biUnion (ℓ := (c : Thread nD τ).loc cc0_scratch1) Finset.univ (fun hx : Fin 2 × Fin 8 => slotSet hx.1 hx.2)
    fun t _ t' _ hne => slots_apart t t' hne)
theorem ag_slots (c : Dev nD) (f : Buf3 F) :
    ((c : Thread nD τ).loc cc0_scratch2 ↦{fullShare} f : sProp 𝕄) = bigSep Finset.univ fun hx : Fin 2 × Fin 8 => agPts c hx.1 hx.2 fullShare f := by
  unfold agPts
  exact Eq.trans (by rw [slots_all]) (pointsTo_biUnion (ℓ := (c : Thread nD τ).loc cc0_scratch2) Finset.univ (fun hx : Fin 2 × Fin 8 => slotSet hx.1 hx.2)
    fun t _ t' _ hne => slots_apart t t' hne)

/-- Slots of the receive buffer at any contents make the buffer whole. -/
theorem rs_join (g : Buf3 F) (c : Dev nD) :
    (bigSep Finset.univ fun hx : Fin 2 × Fin 8 => (iprop(∃ f : Buf3 F, rsPts c hx.1 hx.2 f) : sProp 𝕄))
      ⊢ iprop(∃ f : Buf3 F, (c : Thread nD τ).loc cc0_scratch1 ↦{fullShare} f) := by
  haveI : Nonempty (Buf3 F) := ⟨g⟩
  refine (BI.bigSep_exists_pi Finset.univ fun (hx : Fin 2 × Fin 8) (f : Buf3 F) => (rsPts c hx.1 hx.2 f : sProp 𝕄)).trans ?_
  unfold rsPts
  iintro ⟨%fs, H⟩
  have h := pointsTo_biUnion_join (ℓ := (c : Thread nD τ).loc cc0_scratch1) (q := fullShare) (Val := Elt F) (Ix := Unit) (Name := ℕ) (U := UU) (Lvl := ℕ) Finset.univ
    (fun hx : Fin 2 × Fin 8 => slotSet hx.1 hx.2) fs (fs (0, 0)) fun t _ t' _ hne => slots_apart t t' hne
  rw [slots_all] at h
  ihave H := h $$ H
  icases H with ⟨%g, -, H⟩
  iexists g
  iexact H

theorem land_rs (c : Dev nD) (h : Fin 2) (x : Fin 8) (f : Buf3 F) : (land c (0, h, x) f : sProp 𝕄) = rsPts c h x f := rfl
theorem land_ag (c : Dev nD) (h : Fin 2) (x : Fin 8) (f : Buf3 F) : (land c (1, h, x) f : sProp 𝕄) = agPts c h x fullShare f := rfl

/-! ## Regrouping -/

/-- A sum over copies, by positions. -/
theorem by_pos (Φ : Cp → sProp 𝕄) :
    (bigSep Finset.univ fun x : Fin 8 => bigSep Finset.univ fun kh : Fin 2 × Fin 2 => Φ (kh.1, kh.2, x)) = bigSep Finset.univ Φ := by
  rw [← bigSep_univ_prod (fun q : Fin 8 × (Fin 2 × Fin 2) => Φ (q.2.1, q.2.2, q.1))]
  exact (bigSep_univ_equiv ⟨fun q : Fin 8 × (Fin 2 × Fin 2) => ((q.2.1, q.2.2, q.1) : Cp), fun p => (p.2.2, p.1, p.2.1), fun _ => rfl, fun _ => rfl⟩ Φ).symm

/-- A sum over copies, by kind. -/
theorem by_kind (Φ : Cp → sProp 𝕄) :
    bigSep Finset.univ Φ = iprop((bigSep Finset.univ fun hx : Fin 2 × Fin 8 => Φ (0, hx.1, hx.2)) ∗ bigSep Finset.univ fun hx : Fin 2 × Fin 8 => Φ (1, hx.1, hx.2)) := by
  rw [bigSep_univ_prod Φ, bigSep_fin_two]
  rfl

def ofPos (c : Dev nD) : Fin 8 ≃ Dev nD := ⟨peer c, pos c, pos_peer c, peer_pos c⟩

/-- The receive and gather buffers whole are the landing slots of all the device's partners. -/
theorem landings_of_bufs (c : Dev nD) :
    iprop((∃ f : Buf3 F, (c : Thread nD τ).loc cc0_scratch1 ↦{fullShare} f) ∗ ∃ f : Buf3 F, (c : Thread nD τ).loc cc0_scratch2 ↦{fullShare} f)
      ⊢ (bigSep Finset.univ fun x : Fin 8 => landing (F := F) c x : sProp 𝕄) := by
  unfold landing
  rw [by_pos fun p : Cp => (iprop(∃ f, land (F := F) c p f) : sProp 𝕄), by_kind]
  have h0 (f : Buf3 F) : (bigSep Finset.univ fun hx : Fin 2 × Fin 8 => (rsPts c hx.1 hx.2 f : sProp 𝕄))
      ⊢ bigSep Finset.univ fun hx : Fin 2 × Fin 8 => iprop(∃ f, land (F := F) c (0, hx.1, hx.2) f) :=
    bigSep_mono fun hx _ => by
      show (rsPts c hx.1 hx.2 f : sProp 𝕄) ⊢ iprop(∃ f, land (F := F) c (0, hx.1, hx.2) f)
      simp only [land_rs]
      iintro H
      iexists f
      iexact H
  have h1 (f : Buf3 F) : (bigSep Finset.univ fun hx : Fin 2 × Fin 8 => (agPts c hx.1 hx.2 fullShare f : sProp 𝕄))
      ⊢ bigSep Finset.univ fun hx : Fin 2 × Fin 8 => iprop(∃ f, land (F := F) c (1, hx.1, hx.2) f) :=
    bigSep_mono fun hx _ => by
      show (agPts c hx.1 hx.2 fullShare f : sProp 𝕄) ⊢ iprop(∃ f, land (F := F) c (1, hx.1, hx.2) f)
      simp only [land_ag]
      iintro H
      iexists f
      iexact H
  iintro ⟨⟨%f, HR⟩, ⟨%g, HA⟩⟩
  ihave HR := (Entails.of_eq (rs_slots c f)) $$ HR
  ihave HA := (Entails.of_eq (ag_slots c g)) $$ HA
  isplitl [HR]
  · iapply (h0 f); iexact HR
  iapply (h1 g); iexact HA

/-- By the devices that write them. -/
theorem landings_by_dev (c : Dev nD) :
    (bigSep Finset.univ fun x : Fin 8 => landing (F := F) c x : sProp 𝕄)
      = iprop(landing (F := F) c 0 ∗ bigSep (Finset.univ.erase c) fun q : Dev nD => landing (F := F) c (pos q c)) := by
  have e1 (q : Dev nD) : (landing c ((ofPos c).symm q) : sProp 𝕄) = landing c (pos q c) := by
    rw [show (ofPos c).symm q = pos c q from rfl, pos_comm]
  rw [bigSep_univ_equiv (ofPos c).symm, bigSep_univ_at _ c, e1, (pos_eq_zero c c).mpr rfl, bigSep_congr fun q _ => e1 q]

/-- What the partners gave, with the device's own slots: the landing slots of all the device's copies. -/
theorem landings_given (c : Dev nD) :
    (bigSep Finset.univ fun p : Cp => iprop(∃ f, land (F := F) (peer c p.2.2) p f) : sProp 𝕄)
      = iprop(landing (F := F) c 0 ∗ bigSep (Finset.univ.erase c) fun q : Dev nD => landing (F := F) q (pos c q)) := by
  have e : (bigSep Finset.univ fun p : Cp => iprop(∃ f, land (F := F) (peer c p.2.2) p f) : sProp 𝕄)
      = bigSep Finset.univ fun x : Fin 8 => landing (F := F) (peer c x) x := by
    rw [← by_pos fun p : Cp => (iprop(∃ f, land (F := F) (peer c p.2.2) p f) : sProp 𝕄)]
    rfl
  have e1 (q : Dev nD) : (landing (peer c ((ofPos c).symm q)) ((ofPos c).symm q) : sProp 𝕄) = landing q (pos c q) := by
    rw [show (ofPos c).symm q = pos c q from rfl, peer_pos]
  rw [e, bigSep_univ_equiv (ofPos c).symm, bigSep_univ_at _ c, e1, (pos_eq_zero c c).mpr rfl, bigSep_congr fun q _ => e1 q]

/-! ## The start -/

/-- What a device has for a copy besides memory: its own two cells closed, or the copy's tokens and positions. -/
def seed (c : Dev nD) (p : Cp) : sProp 𝕄 :=
  if p.2.2 = 0 then iprop(semVal (recvCell c p) 0 ∗ semVal (sendCell c p) 0) else iprop(tok c p ∗ opn c p)

/-- The partial products of copy `p`. -/
def product (c : Dev nD) (p : Cp) : sProp 𝕄 := if p.1 = 0 then partPts c p.2.1 p.2.2 (partF A B c) else iprop(emp)

theorem item_start (c : Dev nD) (p : Cp) :
    iprop((seed (F := F) c p ∗ product A B c p) ∗ ∃ f, land (F := F) (peer c p.2.2) p f) ⊢ (item A B c p (stage 0 p) : sProp 𝕄) := by
  have hs : stage 0 p = if p.1 = 0 then 1 else 0 := rfl
  rw [hs]
  rcases p with ⟨kd, h, x⟩
  by_cases hx : x = 0
  · subst hx
    rw [show (seed c (kd, h, 0) : sProp 𝕄) = iprop(semVal (recvCell c (kd, h, 0)) 0 ∗ semVal (sendCell c (kd, h, 0)) 0) from if_pos rfl]
    rcases (by omega : kd = 0 ∨ kd = 1) with rfl | rfl
    · rw [show item A B c (0, h, 0) (if (0 : Fin 2) = 0 then 1 else 0) = iprop((semVal (recvCell c (0, h, 0)) 0 ∗ semVal (sendCell c (0, h, 0)) 0)
          ∗ partPts c h 0 (partF A B c) ∗ ∃ f, rsPts c h 0 f) from if_pos rfl, peer_zero]
      exact BI.sep_assoc
    · rw [show (if (1, h, (0 : Fin 8)).1 = (0 : Fin 2) then 1 else 0) = 0 from rfl, item_empty, if_pos rfl, show besides (F := F) c h 0 = _ from if_pos rfl, show product A B c (1, h, 0) = iprop(emp) from rfl, peer_zero]
      show iprop(((semVal (recvCell c (1, h, 0)) 0 ∗ semVal (sendCell c (1, h, 0)) 0) ∗ emp) ∗ ∃ f, agPts c h 0 fullShare f) ⊢ _
      iintro ⟨⟨HS, -⟩, HL⟩
      isplitl [HL] <;> iassumption
  · rw [show (seed c (kd, h, x) : sProp 𝕄) = iprop(tok c (kd, h, x) ∗ opn c (kd, h, x)) from if_neg hx]
    rcases (by omega : kd = 0 ∨ kd = 1) with rfl | rfl
    · rw [show item A B c (0, h, x) (if (0 : Fin 2) = 0 then 1 else 0)
          = iprop(src A B c (0, h, x) ∗ (tok c (0, h, x) ∗ opn c (0, h, x)) ∗ ∃ f, land (F := F) (peer c x) (0, h, x) f) from if_neg hx,
        show product A B c (0, h, x) = src A B c (0, h, x) from rfl]
      iintro ⟨⟨HS, HP⟩, HL⟩
      isplitl [HP]; · iexact HP
      isplitl [HS] <;> iassumption
    · rw [show (if (1, h, x).1 = (0 : Fin 2) then 1 else 0) = 0 from rfl, item_empty, if_neg hx, emp_sep_eq, show besides (F := F) c h x = _ from if_neg hx, show product A B c (1, h, x) = iprop(emp) from rfl]
      iintro ⟨⟨HS, -⟩, HL⟩
      isplitl [HS] <;> iassumption

theorem products (c : Dev nD) :
    ((c : Thread nD τ).loc cc0_scratch0 ↦{fullShare} partF A B c : sProp 𝕄) = bigSep Finset.univ fun p : Cp => product A B c p := by
  rw [part_slots, by_kind]
  have e : (bigSep Finset.univ fun hx : Fin 2 × Fin 8 => product A B c (1, hx.1, hx.2)) = iprop(emp) := bigSep_emp_const _
  rw [e, sep_comm_eq, emp_sep_eq]
  rfl

theorem unsent_zero : unsent 0 = allCp := by decide +kernel

theorem Run_start (c : Dev nD) :
    iprop((∃ W, owes (c : Thread nD τ) (dues c allCp) W) ∗ (bigSep Finset.univ fun p : Cp => seed (F := F) c p)
        ∗ ((c : Thread nD τ).loc cc0_scratch0 ↦{fullShare} partF A B c) ∗ landing (F := F) c 0
        ∗ bigSep (Finset.univ.erase c) fun q : Dev nD => landing (F := F) q (pos c q))
      ⊢ (Run A B c 0 : sProp 𝕄) := by
  unfold Run
  rw [unsent_zero, products]
  have h : (bigSep Finset.univ fun p : Cp => iprop((seed (F := F) c p ∗ product A B c p) ∗ ∃ f, land (F := F) (peer c p.2.2) p f))
      ⊢ (bigSep Finset.univ fun p : Cp => item A B c p (stage 0 p) : sProp 𝕄) := bigSep_mono fun p _ => item_start A B c p
  rw [bigSep_sep', bigSep_sep'] at h
  iintro ⟨HO, HS, HP, HL⟩
  isplitl [HO]; · iexact HO
  iapply h
  isplitl [HS HP]
  · isplitl [HS] <;> iassumption
  iapply (Entails.of_eq (landings_given c).symm)
  iexact HL

/-! ## The end -/

/-- What a device has for a copy at the end: its two cells closed, and memory. -/
def closed (c : Dev nD) (p : Cp) : sProp 𝕄 := iprop(semVal (recvCell c p) 0 ∗ semVal (sendCell c p) 0)
def slots0 (c : Dev nD) (h : Fin 2) (x : Fin 8) : sProp 𝕄 := iprop(partPts c h x (partF A B c) ∗ ∃ f, rsPts c h x f)
def slots1 (c : Dev nD) (h : Fin 2) (x : Fin 8) : sProp 𝕄 :=
  iprop(agPts c h 0 (piece x) (agF A B c) ∗ if x = 0 then iprop(emp) else agPts c h x fullShare (agF A B c))

theorem stage_end (p : Cp) : stage 100 p = if p.2.2 = 0 then 1 else 4 := by revert p; decide +kernel
theorem unsent_end : unsent 100 = ∅ := by decide +kernel

theorem item_end0 (c : Dev nD) (h : Fin 2) (x : Fin 8) :
    (item A B c (0, h, x) (stage 100 (0, h, x)) : sProp 𝕄) ⊢ iprop(closed (F := F) c (0, h, x) ∗ slots0 A B c h x) := by
  rw [stage_end]
  unfold closed slots0
  by_cases hx : x = 0
  · subst hx
    exact Entails.of_eq (if_pos rfl)
  · rw [show item A B c (0, h, x) (if x = 0 then 1 else 4) = iprop(rsPts c h x (rsF A B c) ∗ semVal (recvCell c (0, h, x)) 0
      ∗ partPts c h x (partF A B c) ∗ semVal (sendCell c (0, h, x)) 0) from by rw [if_neg hx]; exact if_neg hx]
    iintro ⟨HL, HR, HP, HS⟩
    isplitl [HR HS]
    · isplitl [HR] <;> iassumption
    isplitl [HP]; · iexact HP
    iexists _
    iexact HL

theorem item_end1 (c : Dev nD) (h : Fin 2) (x : Fin 8) :
    (item A B c (1, h, x) (stage 100 (1, h, x)) : sProp 𝕄) ⊢ iprop(closed (F := F) c (1, h, x) ∗ slots1 A B c h x) := by
  rw [stage_end]
  unfold closed slots1
  by_cases hx : x = 0
  · subst hx
    rw [show item A B c (1, h, 0) (if (0 : Fin 8) = 0 then 1 else 4) = iprop((semVal (recvCell c (1, h, 0)) 0 ∗ semVal (sendCell c (1, h, 0)) 0)
      ∗ agPts c h 0 (piece 0) (agF A B c)) from if_pos rfl, if_pos rfl]
    iintro ⟨HS, HP⟩
    isplitl [HS]; · iexact HS
    isplitl [HP]; · iexact HP
    iempintro
  · rw [show item A B c (1, h, x) (if x = 0 then 1 else 4) = iprop(agPts c h x fullShare (agF A B c) ∗ semVal (recvCell c (1, h, x)) 0
      ∗ agPts c h 0 (piece x) (agF A B c) ∗ semVal (sendCell c (1, h, x)) 0) from by rw [if_neg hx]; exact if_neg hx, if_neg hx]
    iintro ⟨HL, HR, HP, HS⟩
    isplitl [HR HS]
    · isplitl [HR] <;> iassumption
    isplitl [HP] <;> iassumption

/-- The slots of finished blocks, the own one in pieces, make the gather buffer. -/
theorem ag_join (c : Dev nD) :
    (bigSep Finset.univ fun hx : Fin 2 × Fin 8 => slots1 A B c hx.1 hx.2 : sProp 𝕄)
      = ((c : Thread nD τ).loc cc0_scratch2 ↦{fullShare} agF A B c) := by
  rw [ag_slots, bigSep_univ_prod, bigSep_univ_prod]
  refine bigSep_congr fun h _ => ?_
  show (bigSep Finset.univ fun x : Fin 8 => slots1 A B c h x) = bigSep Finset.univ fun x : Fin 8 => agPts c h x fullShare (agF A B c)
  unfold slots1
  rw [bigSep_sep', ← ag_pieces, bigSep_univ_at _ (0 : Fin 8), if_pos rfl, emp_sep_eq, bigSep_univ_at (fun x : Fin 8 => agPts c h x fullShare (agF A B c)) (0 : Fin 8)]
  rw [bigSep_congr (s := Finset.univ.erase (0 : Fin 8)) fun x hx => if_neg (Finset.ne_of_mem_erase hx)]

theorem Run_end (c : Dev nD) :
    (Run A B c 100 : sProp 𝕄) ⊢ iprop((∃ W, owes (c : Thread nD τ) 0 W) ∗ (bigSep Finset.univ fun p : Cp => closed (F := F) c p)
      ∗ (∃ f : Buf3 F, (c : Thread nD τ).loc cc0_scratch0 ↦{fullShare} f) ∗ (∃ f : Buf3 F, (c : Thread nD τ).loc cc0_scratch1 ↦{fullShare} f)
      ∗ (∃ f : Buf3 F, (c : Thread nD τ).loc cc0_scratch2 ↦{fullShare} f)) := by
  unfold Run
  rw [unsent_end, by_kind, by_kind (fun p : Cp => closed (F := F) c p)]
  have h0 : (bigSep Finset.univ fun hx : Fin 2 × Fin 8 => item A B c (0, hx.1, hx.2) (stage 100 (0, hx.1, hx.2)) : sProp 𝕄)
      ⊢ bigSep Finset.univ fun hx : Fin 2 × Fin 8 => iprop(closed (F := F) c (0, hx.1, hx.2) ∗ partPts c hx.1 hx.2 (partF A B c) ∗ ∃ f, rsPts c hx.1 hx.2 f) :=
    bigSep_mono fun hx _ => item_end0 A B c hx.1 hx.2
  have h1 : (bigSep Finset.univ fun hx : Fin 2 × Fin 8 => item A B c (1, hx.1, hx.2) (stage 100 (1, hx.1, hx.2)) : sProp 𝕄)
      ⊢ bigSep Finset.univ fun hx : Fin 2 × Fin 8 => iprop(closed (F := F) c (1, hx.1, hx.2) ∗ slots1 A B c hx.1 hx.2) :=
    bigSep_mono fun hx _ => item_end1 A B c hx.1 hx.2
  rw [bigSep_sep', bigSep_sep', ← part_slots] at h0
  rw [bigSep_sep', ag_join] at h1
  iintro ⟨HO, H0, H1⟩
  ihave H0 := h0 $$ H0
  ihave H1 := h1 $$ H1
  icases H0 with ⟨HC0, HP, HR⟩
  icases H1 with ⟨HC1, HA⟩
  isplitl [HO]; · iexact HO
  isplitl [HC0 HC1]
  · isplitl [HC0] <;> iassumption
  isplitl [HP]; · iexists _; iexact HP
  isplitl [HR]
  · iapply (rs_join (rsF A B c) c); iexact HR
  iexists _
  iexact HA

end Cert.XorProof

end
-- ==== Proof.Signals.lean ====
/-
# The signals at the head of the body

A device tells every other device that it is there, and gives it the slots that the other device writes.
-/
module

public import proofs.«01_k».proof.Proof.Ends

@[expose] public section

noncomputable section

namespace Cert.XorProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (A : Dev nD → Vec F S512x256 .bf16) (B : Dev nD → Vec F S256x512 .bf16)
variable (K : Dev nD × Option Key → ℕ)

/-! ## The signals -/

/-- The devices that have not been told yet. -/
def untold (c : Dev nD) (n : ℕ) : Finset (Dev nD) := Finset.univ.filter fun q => n ≤ q.val ∧ q ≠ c

theorem untold_zero (c : Dev nD) : untold c 0 = Finset.univ.erase c := by revert c; decide +kernel
theorem untold_end (c : Dev nD) : untold c 8 = ∅ := by revert c; decide +kernel
theorem untold_self (c : Dev nD) (n : Fin 8) (h : c = n) : untold c n.val = untold c (n.val + 1) := by revert c n; decide +kernel
theorem untold_next (c : Dev nD) (n : Fin 8) (h : c ≠ n) : untold c n.val = insert n (untold c (n.val + 1)) := by revert c n; decide +kernel
theorem untold_not (c : Dev nD) (n : Fin 8) : (n : Dev nD) ∉ untold c (n.val + 1) := by revert c n; decide +kernel

/-- The state before device `n` is told. -/
def Sig (c : Dev nD) (n : ℕ) (R : sProp 𝕄) : sProp 𝕄 :=
  iprop(records A B K ∗ (∃ W, owes (c : Thread nD τ) (dues c allCp + barDues (untold c n)) W)
    ∗ (bigSep (untold c n) fun q : Dev nD => iprop(dutyTok ER (barCell q) 0 (c : Fin 8) ∗ landing (F := F) c (pos q c))) ∗ R)

theorem sig_one {c : Dev nD} (n : Fin 8) {cond : BitVec 1} {f : ℕ} (lt : cond = 1#1 → f < nD) {R : sProp 𝕄} {α β : Type} {Q : α → sProp 𝕄}
    {J : Prog (TpuEff nD τ sig (Elt F) Λ₀ .tc) β} {k : β → Prog (TpuEff nD τ sig (Elt F) Λ₀ .tc) α}
    (hc : cond = 1#1 ↔ c ≠ n) (hf : f = n.val) (hJ : Sig A B K c (n.val + 1) R ⊢ WP c (J >>= k) Q) :
    Sig A B K c n.val R ⊢ WP c ((if h : cond = 1#1 then (semSignalWord (⟨f, lt h⟩ : Dev nD) (SemArray.scalar (sig.barrier 0 rfl) : Sems sig S_).sem 1#32 >>= fun _ => J) else J) >>= k) Q := by
  by_cases h : cond = 1#1
  · have hne := hc.mp h
    rw [dif_pos h]
    subst hf
    show _ ⊢ WP c (.op (.semSignal ((⟨n.val, lt h⟩ : Dev nD) : Thread nD τ) barS 1) fun _ => J >>= k) Q
    unfold Sig
    rw [untold_next c n hne, barDues_insert _ _ (untold_not c n), bigSep_insert (untold_not c n)]
    show iprop(records A B K ∗ (∃ W, owes (c : Thread nD τ) (dues c allCp + (barDues (untold c (n.val + 1)) + tallyAt (barCell (n : Dev nD)) () 1)) W)
      ∗ ((dutyTok ER (barCell (n : Dev nD)) 0 (c : Fin 8) ∗ landing (F := F) c (pos n c))
        ∗ bigSep (untold c (n.val + 1)) fun q : Dev nD => iprop(dutyTok ER (barCell q) 0 (c : Fin 8) ∗ landing (F := F) c (pos q c))) ∗ R) ⊢ _
    iintro ⟨#HR, ⟨%W, HO⟩, ⟨⟨Ht, Hl⟩, HG⟩, HF⟩
    ihave #Hb := (records_at A B K (n : Dev nD) none) $$ HR
    icases Hb with ⟨HI, Hr⟩
    iapply (Rounds.wp_signal 𝒱₀ ER (Rd A B) (c : Thread nD τ) none (dst := ((n : Dev nD) : Thread nD τ)) (κ := K (n, none)) (d := (c : Fin 8)) (r := 0)
      (by rw [duties_bar]; exact Finset.mem_erase.mpr ⟨hne, Finset.mem_univ _⟩) ((amount_bar A B (n : Dev nD) c).trans (by decide)) ()
      (dues c allCp + barDues (untold c (n.val + 1))) (by rw [add_assoc])) $$ [HO Ht Hl]
    · isplitr; · iexact HI
      isplitl [HO]; · iexact HO
      isplitl [Ht]; · iexact Ht
      isplitl [Hl]
      · rw [payload_bar]; iexact Hl
      iexact Hr
    iintro HO
    iapply hJ
    unfold Sig
    isplitr; · iexact HR
    isplitl [HO]; · iexists W; iexact HO
    isplitl [HG] <;> iassumption
  · rw [dif_neg h]
    have he : c = n := by by_contra hn; exact h (hc.mpr hn)
    refine (Entails.of_eq ?_).trans hJ
    unfold Sig
    rw [untold_self c n he]

/-- A device does not signal itself. -/
theorem told0 : ∀ c : Dev nD, k0_cond1 c = 1#1 ↔ c ≠ 0 := by decide +kernel
theorem told1 : ∀ c : Dev nD, k0_cond2 c = 1#1 ↔ c ≠ 1 := by decide +kernel
theorem told2 : ∀ c : Dev nD, k0_cond3 c = 1#1 ↔ c ≠ 2 := by decide +kernel
theorem told3 : ∀ c : Dev nD, k0_cond4 c = 1#1 ↔ c ≠ 3 := by decide +kernel
theorem told4 : ∀ c : Dev nD, k0_cond5 c = 1#1 ↔ c ≠ 4 := by decide +kernel
theorem told5 : ∀ c : Dev nD, k0_cond6 c = 1#1 ↔ c ≠ 5 := by decide +kernel
theorem told6 : ∀ c : Dev nD, k0_cond7 c = 1#1 ↔ c ≠ 6 := by decide +kernel
theorem told7 : ∀ c : Dev nD, k0_cond8 c = 1#1 ↔ c ≠ 7 := by decide +kernel

theorem own_number {c : Dev nD} {S : sProp 𝕄} {α β : Type} {Q : α → sProp 𝕄} {g : Dev nD → Prog (TpuEff nD τ sig (Elt F) Λ₀ .tc) β}
    {k : β → Prog (TpuEff nD τ sig (Elt F) Λ₀ .tc) α} (h : S ⊢ WP c (g c >>= k) Q) : S ⊢ WP c ((Prog.lift .deviceId >>= g) >>= k) Q := by
  refine h.trans (Entails.of_eq ?_)
  simp only [Prog.lift, Prog.bind_op, Prog.bind_ret, wp_deviceId]

/-! ## The operands -/

def aPts (c : Dev nD) (f : Vec F S512x256 .bf16) : sProp 𝕄 := (c : Thread nD τ).loc cc0_stg0_0 ↦{fullShare} f
def bPts (c : Dev nD) (f : Vec F S256x512 .bf16) : sProp 𝕄 := (c : Thread nD τ).loc cc0_stg1_0 ↦{fullShare} f

theorem zero2 : (![0, 0] : Fin 2 → ℕ) = fun _ => 0 := by funext a; fin_cases a <;> rfl

theorem wp_load_a (c : Dev nD) (f : Vec F S512x256 .bf16) (i) {hl : aM.view.LoadsAt (Rect.unit (s := S512x256) ![0, 0] S512x256.size i).toLoadRect}
    {α : Type} {Q : α → sProp 𝕄} {k : Vec F S512x256 .bf16 → Prog (TpuEff nD τ sig (Elt F) Λ₀ .tc) α} :
    (aPts c f : sProp 𝕄) ⊢ iprop((aPts c f -∗ WP c (k f) Q) -∗ WP c (.op (.load aM (Rect.unit (s := S512x256) ![0, 0] S512x256.size i).toLoadRect hl) k) Q) := by
  have e : aM.view.readAt (Elt F) (Rect.unit (s := S512x256) ![0, 0] S512x256.size i).toLoadRect f = f :=
    Memref.readAt_unit_zero (Elt F) cc0_stg0_0 zero2 _ f
  have h : (aPts c f : sProp 𝕄) ⊢ iprop((aPts c f -∗ WP c (k (aM.view.readAt (Elt F) (Rect.unit (s := S512x256) ![0, 0] S512x256.size i).toLoadRect f)) Q)
      -∗ WP c (.op (.load aM (Rect.unit (s := S512x256) ![0, 0] S512x256.size i).toLoadRect hl) k) Q) :=
    wp_load 𝒱₀ (c : Thread nD τ) none Set.univ (m := aM) (Finset.subset_univ _)
  rw [e] at h
  exact h

theorem wp_load_b (c : Dev nD) (f : Vec F S256x512 .bf16) (i) {hl : bM.view.LoadsAt (Rect.unit (s := S256x512) ![0, 0] S256x512.size i).toLoadRect}
    {α : Type} {Q : α → sProp 𝕄} {k : Vec F S256x512 .bf16 → Prog (TpuEff nD τ sig (Elt F) Λ₀ .tc) α} :
    (bPts c f : sProp 𝕄) ⊢ iprop((bPts c f -∗ WP c (k f) Q) -∗ WP c (.op (.load bM (Rect.unit (s := S256x512) ![0, 0] S256x512.size i).toLoadRect hl) k) Q) := by
  have e : bM.view.readAt (Elt F) (Rect.unit (s := S256x512) ![0, 0] S256x512.size i).toLoadRect f = f :=
    Memref.readAt_unit_zero (Elt F) cc0_stg1_0 zero2 _ f
  have h : (bPts c f : sProp 𝕄) ⊢ iprop((bPts c f -∗ WP c (k (bM.view.readAt (Elt F) (Rect.unit (s := S256x512) ![0, 0] S256x512.size i).toLoadRect f)) Q)
      -∗ WP c (.op (.load bM (Rect.unit (s := S256x512) ![0, 0] S256x512.size i).toLoadRect hl) k) Q) :=
    wp_load 𝒱₀ (c : Thread nD τ) none Set.univ (m := bM) (Finset.subset_univ _)
  rw [e] at h
  exact h

set_option maxHeartbeats 2000000 in
/-- The signals, and the device's own slice of the rows. -/
theorem signals (c : Dev nD) (R : sProp 𝕄) {α : Type} {Q : α → sProp 𝕄} {k : (Σ' (d0 : Dev nD) (v2 : BitVec 32) (v3 : Sems sig S_), FVec F S8x64x256 .bf16) → Prog (TpuEff nD τ sig (Elt F) Λ₀ .tc) α}
    (hk : Sig A B K c 8 iprop(aPts c (A c) ∗ R) ⊢ WP c (k ⟨c, word c, SemArray.scalar (sig.barrier 0 rfl), k0_pay1 (A c)⟩) Q) :
    Sig A B K c 0 iprop(aPts c (A c) ∗ R) ⊢ WP c (onRefs (k0_part1 (F := F)) >>= k) Q := by
  simp only [k0_part1_eq_skeleton]
  unfold k0_part1_skel
  refine own_number ?_
  extract_lets v0 v1 v2 v3 j7 j6 j5 j4 j3 j2 j1 j0
  refine sig_one A B K 0 (f := k0_dev1) (k0_dev1_lt c) (told0 c) (by decide +kernel) ?_
  unfold j0
  refine sig_one A B K 1 (f := k0_dev2) (k0_dev2_lt c) (told1 c) (by decide +kernel) ?_
  unfold j1
  refine sig_one A B K 2 (f := k0_dev3) (k0_dev3_lt c) (told2 c) (by decide +kernel) ?_
  unfold j2
  refine sig_one A B K 3 (f := k0_dev4) (k0_dev4_lt c) (told3 c) (by decide +kernel) ?_
  unfold j3
  refine sig_one A B K 4 (f := k0_dev5) (k0_dev5_lt c) (told4 c) (by decide +kernel) ?_
  unfold j4
  refine sig_one A B K 5 (f := k0_dev6) (k0_dev6_lt c) (told5 c) (by decide +kernel) ?_
  unfold j5
  refine sig_one A B K 6 (f := k0_dev7) (k0_dev7_lt c) (told6 c) (by decide +kernel) ?_
  unfold j6
  refine sig_one A B K 7 (f := k0_dev8) (k0_dev8_lt c) (told7 c) (by decide +kernel) ?_
  unfold j7
  unfold Sig at hk ⊢
  simp only [Prog.lift, Prog.bind_op, Prog.bind_ret, Prog.pure_eq_ret]
  iintro ⟨#HR, HO, HG, HA, HF⟩
  iapply (wp_load_a c (A c)) $$ HA
  iintro HA
  iapply hk
  isplitr; · iexact HR
  isplitl [HO]; · iexact HO
  isplitl [HG]; · iexact HG
  isplitl [HA] <;> iassumption

end Cert.XorProof

end
-- ==== Proof.Head.lean ====
/-
# The head of the body

After the signals a device computes its partial products; it waits until the seven others are there too, gets the slots
that it writes itself, and starts the first copy.
-/
module

public import proofs.«01_k».proof.Proof.Signals

@[expose] public section

noncomputable section

namespace Cert.XorProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (A : Dev nD → Vec F S512x256 .bf16) (B : Dev nD → Vec F S256x512 .bf16)
variable (K : Dev nD × Option Key → ℕ)

/-! ## The partial products -/

def wholePart (c : Dev nD) (f : Buf3 F) : sProp 𝕄 := (c : Thread nD τ).loc cc0_scratch0 ↦{fullShare} f

section Half
variable {c : Dev nD} {h : ℕ}

theorem wp_look_half (i : InbHalf h) (f : Buf3 F) {hl : partM.view.LoadsAt (halfRect h i).toLoadRect}
    {α : Type} {Q : α → sProp 𝕄} {k : Vec F S1x8x64x256 .bf16 → Prog (TpuEff nD τ sig (Elt F) Λ₀ .tc) α} :
    (wholePart c f : sProp 𝕄) ⊢ iprop((∀ v, wholePart c f -∗ WP c (k v) Q) -∗ WP c (.op (.load partM (halfRect h i).toLoadRect hl) k) Q) := by
  have H : (wholePart c f : sProp 𝕄) ⊢ iprop((wholePart c f -∗ WP c (k (partM.view.readAt (Elt F) (halfRect h i).toLoadRect f)) Q)
      -∗ WP c (.op (.load partM (halfRect h i).toLoadRect hl) k) Q) :=
    wp_load 𝒱₀ (c : Thread nD τ) none Set.univ (m := partM) (Finset.subset_univ _)
  iintro HP Hk
  iapply H $$ HP
  iintro HP
  ispecialize Hk $$ %(partM.view.readAt (Elt F) (halfRect h i).toLoadRect f)
  iapply Hk
  iexact HP

theorem wp_store_half (i : InbHalf h) (f : Buf3 F) (w : Vec F S1x8x64x256 .bf16)
    {hst : (partM.access (halfRect h i)).Stores Finset.univ} {hm}
    {α : Type} {Q : α → sProp 𝕄} {k : PUnit → Prog (TpuEff nD τ sig (Elt F) Λ₀ .tc) α} :
    (wholePart c f : sProp 𝕄) ⊢ iprop((wholePart c ((partM.access (halfRect h i)).write (Elt F) f w Finset.univ) -∗ WP c (k ⟨⟩) Q)
      -∗ WP c (.op (.store partM (halfRect h i) w Finset.univ hst hm) k) Q) :=
  wp_store 𝒱₀ (c : Thread nD τ) none Set.univ (m := partM) (r := halfRect h i) (Mk := Finset.univ) (Finset.subset_univ _)

end Half

/-- The first column half of the partial products, over any contents. -/
def firstHalf (c : Dev nD) : sProp 𝕄 :=
  iprop(∃ f : Buf3 F, wholePart c ((partM.access (halfRect 0 inb_S2x8x64x256_S1x8x64x256_0_0_0_0)).write (Elt F) f (k0_pay3 (word c) (k0_pay1 (A c)) (B c)) Finset.univ))

theorem first_half (c : Dev nD) (R : sProp 𝕄) {α : Type} {Q : α → sProp 𝕄} {k : FVec F S512x512 .f32 → Prog (TpuEff nD τ sig (Elt F) Λ₀ .tc) α}
    (hk : iprop(bPts c (B c) ∗ firstHalf A B c ∗ R) ⊢ WP c (k (k0_pay2 (word c) (k0_pay1 (A c)) (B c))) Q) :
    iprop(bPts c (B c) ∗ (∃ f, wholePart c f) ∗ R) ⊢ WP c (onRefs (k0_part2 (F := F)) (word c) (k0_pay1 (A c)) >>= k) Q := by
  simp only [k0_part2_eq_skeleton, k0_part2_skel, Prog.lift, Prog.bind_op, Prog.bind_ret, Prog.pure_eq_ret]
  iintro ⟨HB, ⟨%f, HP⟩, HF⟩
  iapply (wp_load_b c (B c)) $$ HB
  iintro HB
  iapply (wp_look_half (h := 0) inb_S2x8x64x256_S1x8x64x256_0_0_0_0 f) $$ HP
  iintro %v HP
  iapply (wp_store_half (h := 0) inb_S2x8x64x256_S1x8x64x256_0_0_0_0 f) $$ HP
  iintro HP
  iapply hk
  isplitl [HB]; · iexact HB
  isplitl [HP]
  · unfold firstHalf; iexists f; iexact HP
  iexact HF

theorem wholePart_eq (c : Dev nD) (f : Buf3 F) :
    (wholePart c ((partM.access (halfRect 1 inb_S2x8x64x256_S1x8x64x256_1_0_0_0)).write (Elt F)
      ((partM.access (halfRect 0 inb_S2x8x64x256_S1x8x64x256_0_0_0_0)).write (Elt F) f (k0_pay3 (word c) (k0_pay1 (A c)) (B c)) Finset.univ)
      (k0_pay4 (k0_pay2 (word c) (k0_pay1 (A c)) (B c))) Finset.univ) : sProp 𝕄) = wholePart c (partF A B c) := by
  unfold wholePart
  exact pointsTo_congr fun i _ => part_half0 A B c f _ _ i

/-! ## The barrier and the start -/

/-- What a device has for a copy before it starts: the positions at the copy's two cells, the token and the credit. -/
def ready (c : Dev nD) (p : Cp) : sProp 𝕄 :=
  iprop((atPos ER (recvCell c p) 0 ∅ 0 ∗ atPos ER (sendCell c p) 0 ∅ 0)
    ∗ if p.2.2 ≠ 0 then iprop(tok c p ∗ cred (tallyAt (recvCell c p) () N)) else iprop(emp))

theorem seed_of_ready (c : Dev nD) (p : Cp) : iprop(records A B K ∗ ready c p) ⊢ iprop(|={Set.univ}=> seed (F := F) c p) := by
  unfold seed ready
  by_cases hx : p.2.2 = 0
  · rw [if_pos hx, if_neg (not_not.mpr hx)]
    iintro ⟨#HR, ⟨Hv, Hs⟩, -⟩
    ihave #H1 := (records_at A B K c (some (1, p))) $$ HR
    ihave #H0 := (records_at A B K c (some (0, p))) $$ HR
    icases H1 with ⟨HI1, -⟩
    icases H0 with ⟨HI0, -⟩
    imod (Rounds.cell_close ER (Rd A B) (Set.mem_univ (K (c, some (1, p)))) (fun h => h) (R := 0) (fun r _ => duties_key0 A B c (1, p) hx r)) $$ [Hv] with HzV
    · isplitr; · iexact HI1
      iexact Hv
    imod (Rounds.cell_close ER (Rd A B) (Set.mem_univ (K (c, some (0, p)))) (fun h => h) (R := 0) (fun r _ => duties_key0 A B c (0, p) hx r)) $$ [Hs] with HzS
    · isplitr; · iexact HI0
      iexact Hs
    imodintro
    isplitl [HzV] <;> iassumption
  · rw [if_neg hx, if_pos hx]
    unfold opn
    iintro ⟨-, ⟨Hv, Hs⟩, Ht, Hc⟩
    imodintro
    isplitl [Ht]; · iexact Ht
    isplitl [Hv]; · iexact Hv
    isplitl [Hs] <;> iassumption

theorem seeds (c : Dev nD) :
    iprop(records A B K ∗ bigSep Finset.univ fun p : Cp => ready (F := F) c p) ⊢ iprop(|={Set.univ}=> bigSep Finset.univ fun p : Cp => seed (F := F) c p) :=
  (bigSep_with_persistent fun p _ => seed_of_ready A B K c p).trans (bigSep_fupd _ _)

/-- What a device has at the barrier. -/
def gate (c : Dev nD) : sProp 𝕄 :=
  iprop((cred (tallyAt (barCell c) () 7) ∗ atPos ER (barCell c) 0 ∅ 0) ∗ (bigSep Finset.univ fun p : Cp => ready (F := F) c p) ∗ landing (F := F) c 0)

theorem bar_above : ∀ p ∈ allCp, 1 < if p.1 = 0 then 2 else 3 := by decide +kernel

theorem fill_rest {c : Dev nD} {R : sProp 𝕄} {α : Type} {Q : α → sProp 𝕄} {k : PUnit → Prog (TpuEff nD τ sig (Elt F) Λ₀ .tc) α}
    {hl : partM.view.LoadsAt (halfRect 1 inb_S2x8x64x256_S1x8x64x256_1_0_0_0).toLoadRect}
    {hst : (partM.access (halfRect 1 inb_S2x8x64x256_S1x8x64x256_1_0_0_0)).Stores Finset.univ} {hm}
    (hk : iprop(wholePart c (partF A B c) ∗ R) ⊢ WP c (k ⟨⟩) Q) :
    iprop(firstHalf A B c ∗ R) ⊢ WP c (.op (.load partM (halfRect 1 inb_S2x8x64x256_S1x8x64x256_1_0_0_0).toLoadRect hl) fun _ =>
      .op (.store partM (halfRect 1 inb_S2x8x64x256_S1x8x64x256_1_0_0_0) (k0_pay4 (k0_pay2 (word c) (k0_pay1 (A c)) (B c))) Finset.univ hst hm) k) Q := by
  unfold firstHalf
  iintro ⟨⟨%f, HP⟩, HF⟩
  iapply (wp_look_half (h := 1) inb_S2x8x64x256_S1x8x64x256_1_0_0_0 _) $$ HP
  iintro %v HP
  iapply (wp_store_half (h := 1) inb_S2x8x64x256_S1x8x64x256_1_0_0_0 _) $$ HP
  iintro HP
  ihave HP := (Entails.of_eq (wholePart_eq A B c f)) $$ HP
  iapply hk
  isplitl [HP] <;> iassumption

theorem gate_open {c : Dev nD} {R : sProp 𝕄} {α : Type} {Q : α → sProp 𝕄} {k : PUnit → Prog (TpuEff nD τ sig (Elt F) Λ₀ .tc) α}
    (hk : St A B K c 0 iprop(semVal (barCell c) 0 ∗ R) ⊢ WP c (k ⟨⟩) Q) :
    iprop(wholePart c (partF A B c) ∗ records A B K ∗ (∃ W, owes (c : Thread nD τ) (dues c allCp) W) ∗ gate c ∗ R)
      ⊢ WP c (.op (.semWait barS (7#32 : BitVec 32).toInt) k) Q := by
  unfold St at hk
  unfold gate
  iintro ⟨HP, #HR, ⟨%W, HO⟩, ⟨⟨Hcr, Hat⟩, Hrd, Hl0⟩, HF⟩
  ihave #Hb := (records_at A B K c none) $$ HR
  icases Hb with ⟨HI, -⟩
  iapply (Rounds.wp_wait_rest_token 𝒱₀ ER (Rd A B) (c : Thread nD τ) none (κ := K (c, none)) (wpE_semWait_eq 𝒱₀ (c : Thread nD τ) none Set.univ)
    (Set.mem_univ _) () (O := dues c allCp) (W := W) (R := 0) (m := 0) (T := ∅) (by rw [expect_bar]; decide)) $$ [Hcr HO Hat]
  · isplitr; · iexact HI
    isplitl [Hcr]; · iexact Hcr
    isplitl [HO]; · iexact HO
    isplitr
    · iapply (mayWait_dues c (.reg barS) allCp 1 (le_refl _) bar_above)
      iapply (records_lev A B K)
      iexact HR
    iexact Hat
  iintro ⟨HO, Hat, -, Hpay⟩
  ihave Hl := (Entails.of_eq (rest_bar A B c)) $$ Hpay
  imod (Rounds.cell_close ER (Rd A B) (Set.mem_univ (K (c, none))) (fun h => h) (R := 0 + 1) (duties_later A B (barCell c))) $$ [Hat] with HzB
  · isplitr; · iexact HI
    iexact Hat
  imod (seeds A B K c) $$ [Hrd] with Hsd
  · isplitr; · iexact HR
    iexact Hrd
  iapply hk
  isplitr; · iexact HR
  isplitr [HzB HF]
  · iapply (Run_start A B c)
    isplitl [HO]; · iexists _; iexact HO
    isplitl [Hsd]; · iexact Hsd
    isplitl [HP]; · unfold wholePart; iexact HP
    isplitl [Hl0] <;> iassumption
  isplitl [HzB] <;> iassumption

theorem second_half (c : Dev nD) (R : sProp 𝕄) {α : Type} {Q : α → sProp 𝕄} {k : (Σ' (_ : BitVec 32), BitVec 32) → Prog (TpuEff nD τ sig (Elt F) Λ₀ .tc) α}
    (hk : ∀ r, St A B K c 1 iprop(semVal (barCell c) 0 ∗ R) ⊢ WP c (k r) Q) :
    iprop(firstHalf A B c ∗ records A B K ∗ (∃ W, owes (c : Thread nD τ) (dues c allCp) W) ∗ gate c ∗ R)
      ⊢ WP c (onRefs (k0_part3 (F := F)) c (word c) (SemArray.scalar (sig.barrier 0 rfl)) (k0_pay2 (word c) (k0_pay1 (A c)) (B c)) >>= k) Q := by
  simp only [k0_part3_eq_skeleton, k0_part3_skel, semWaitWord, Prog.lift, Prog.bind_op, Prog.bind_ret, Prog.pure_eq_ret]
  refine fill_rest A B ?_
  refine gate_open A B K ?_
  refine rs_send A B K ?_
  exact hk _

end Cert.XorProof

end
-- ==== Proof.Body.lean ====
/-
# The body of one device

The pieces of the body one after the other: from the state at launch to the device's result, with its cells closed and
its scratch buffers whole.
-/
module

public import proofs.«01_k».proof.Proof.Head

@[expose] public section

noncomputable section

namespace Cert.XorProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (A : Dev nD → Vec F S512x256 .bf16) (B : Dev nD → Vec F S256x512 .bf16)
variable (K : Dev nD × Option Key → ℕ)

/-- A bind to the right of a bind. -/
theorem nest {c : Dev nD} {S : sProp 𝕄} {α β γ : Type} {Q : α → sProp 𝕄} {p : Prog (TpuEff nD τ sig (Elt F) Λ₀ .tc) γ}
    {g : γ → Prog (TpuEff nD τ sig (Elt F) Λ₀ .tc) β} {k : β → Prog (TpuEff nD τ sig (Elt F) Λ₀ .tc) α}
    (h : S ⊢ WP c (p >>= fun r => g r >>= k) Q) : S ⊢ WP c ((p >>= g) >>= k) Q := by
  rw [show (p >>= g) >>= k = p >>= fun r => g r >>= k from Prog.bind_assoc p g k]
  exact h

/-- A piece, then the rest. -/
theorem next {γ : Type} {c : Dev nD} {m m' : ℕ} {P : γ → Prop} {R : sProp 𝕄} {α β : Type} {Q : α → sProp 𝕄} {p : Prog (TpuEff nD τ sig (Elt F) Λ₀ .tc) γ}
    {g : γ → Prog (TpuEff nD τ sig (Elt F) Λ₀ .tc) β} {k : β → Prog (TpuEff nD τ sig (Elt F) Λ₀ .tc) α}
    (hp : Lead A B K c p m m' P) (h : ∀ r, P r → St A B K c m' R ⊢ WP c (g r >>= k) Q) : St A B K c m R ⊢ WP c ((p >>= g) >>= k) Q :=
  nest (hp _ _ _ _ h)

/-- What is left at the end. -/
abbrev Left (c : Dev nD) (f : (cc0_stg2_0 : Ref sig .tc).ty.Contents (Elt F)) : sProp 𝕄 :=
  iprop(outAt c f ∗ semVal (barCell c) 0 ∗ aPts c (A c) ∗ bPts c (B c))

set_option maxHeartbeats 2000000 in
theorem long_part (c : Dev nD) (f : (cc0_stg2_0 : Ref sig .tc).ty.Contents (Elt F)) {α : Type} {Q : α → sProp 𝕄}
    {k : PUnit → Prog (TpuEff nD τ sig (Elt F) Λ₀ .tc) α}
    (hk : St A B K c 98 (Left A B c (outF A B c)) ⊢ WP c (k ⟨⟩) Q) :
    Sig A B K c 0 iprop(aPts c (A c) ∗ bPts c (B c) ∗ (∃ f, wholePart c f) ∗ gate c ∗ outAt c f) ⊢ WP c (onRefs (k0_part40 (F := F)) >>= k) Q := by
  simp only [k0_part40_eq_skeleton]
  unfold k0_part40_skel
  refine nest (signals A B K c _ ?_)
  have regroup : Sig A B K c 8 iprop(aPts c (A c) ∗ bPts c (B c) ∗ (∃ f, wholePart c f) ∗ gate c ∗ outAt c f)
      ⊢ iprop(bPts c (B c) ∗ (∃ f, wholePart c f) ∗ records A B K ∗ (∃ W, owes (c : Thread nD τ) (dues c allCp) W) ∗ gate c ∗ outAt c f ∗ aPts c (A c)) := by
    unfold Sig
    rw [untold_end, barDues_empty, add_zero]
    iintro ⟨HR, HO, -, HA, HB, HP, HG, Hf⟩
    isplitl [HB]; · iexact HB
    isplitl [HP]; · iexact HP
    isplitl [HR]; · iexact HR
    isplitl [HO]; · iexact HO
    isplitl [HG]; · iexact HG
    isplitl [Hf] <;> iassumption
  refine regroup.trans ?_
  refine nest (first_half A B c _ ?_)
  have regroup2 : iprop(bPts c (B c) ∗ firstHalf A B c ∗ records A B K ∗ (∃ W, owes (c : Thread nD τ) (dues c allCp) W) ∗ gate c ∗ outAt c f ∗ aPts c (A c))
      ⊢ iprop(firstHalf A B c ∗ records A B K ∗ (∃ W, owes (c : Thread nD τ) (dues c allCp) W) ∗ gate c ∗ outAt c f ∗ aPts c (A c) ∗ bPts c (B c)) := by
    iintro ⟨HB, HP, HR, HO, HG, Hf, HA⟩
    isplitl [HP]; · iexact HP
    isplitl [HR]; · iexact HR
    isplitl [HO]; · iexact HO
    isplitl [HG]; · iexact HG
    isplitl [Hf]; · iexact Hf
    isplitl [HA] <;> iassumption
  refine regroup2.trans ?_
  refine nest (second_half A B K c _ fun r => ?_)
  have regroup3 : St A B K c 1 iprop(semVal (barCell c) 0 ∗ outAt c f ∗ aPts c (A c) ∗ bPts c (B c)) ⊢ St A B K c 1 (Left A B c f) := by
    unfold St Left
    iintro ⟨HR, HU, HS, Hf, HAB⟩
    isplitl [HR]; · iexact HR
    isplitl [HU]; · iexact HU
    isplitl [Hf]; · iexact Hf
    isplitl [HS] <;> iassumption
  refine regroup3.trans ?_
  obtain ⟨v83, v94⟩ := r
  refine next A B K ((sends_rs A B K c).1 _) fun r _ => ?_
  obtain ⟨v105, v116⟩ := r
  refine next A B K ((sends_rs A B K c).2.1 _) fun r _ => ?_
  obtain ⟨v127, v138, v149⟩ := r
  refine next A B K ((sends_rs A B K c).2.2.1 _ _) fun r _ => ?_
  obtain ⟨v160, v171⟩ := r
  refine next A B K ((sends_rs A B K c).2.2.2.1 _ _) fun r _ => ?_
  obtain ⟨v182, v193⟩ := r
  refine next A B K ((sends_rs A B K c).2.2.2.2 _) fun r _ => ?_
  obtain ⟨v204, v215⟩ := r
  refine next A B K (begin_sum0 A B K c _) fun r h0 => ?_
  obtain ⟨v226, v243⟩ := r
  refine next A B K ((sum0 A B K c).1 _ _ _) fun r h1 => ?_
  refine next A B K ((sum0 A B K c).2.1 _ _ _) fun r h2 => ?_
  refine next A B K ((sum0 A B K c).2.2 _ _ _) fun r h3 => ?_
  refine next A B K (finish0 A B K c _ _ _ (by rw [h3, h2, h1, show v243 = _ from h0]; rfl)) fun r _ => ?_
  clear h0 h1 h2 h3
  obtain ⟨v339, u⟩ := r
  refine next A B K ((sends_ag0 A B K c).1 _ _ _) fun r _ => ?_
  obtain ⟨v350, v361⟩ := r
  refine next A B K ((sends_ag0 A B K c).2.1 _) fun r _ => ?_
  obtain ⟨v372, v383⟩ := r
  refine next A B K ((sends_ag0 A B K c).2.2 _) fun r _ => ?_
  obtain ⟨v394, v405⟩ := r
  refine next A B K (begin_sum1 A B K c _ _) fun r h0 => ?_
  refine next A B K ((sum1 A B K c).1 _ _ _) fun r h1 => ?_
  refine next A B K ((sum1 A B K c).2.1 _ _ _) fun r h2 => ?_
  refine next A B K ((sum1 A B K c).2.2 _ _) fun r h3 => ?_
  subst h3
  refine next A B K (finish1 A B K c _ _ _ _ (by rw [h2, h1, h0]; rfl)) fun r _ => ?_
  clear h0 h1 h2
  obtain ⟨v518, v529⟩ := r
  refine next A B K ((sends_ag1 A B K c).1 _) fun r _ => ?_
  obtain ⟨v540, v551⟩ := r
  refine next A B K ((sends_ag1 A B K c).2.1 _) fun r _ => ?_
  obtain ⟨v562, v573, v584⟩ := r
  refine next A B K ((sends_ag1 A B K c).2.2.1 _ _ _) fun r _ => ?_
  refine next A B K ((sends_ag1 A B K c).2.2.2.1 _ _) fun r _ => ?_
  refine next A B K ((sends_ag1 A B K c).2.2.2.2 _ _ _) fun r _ => ?_
  refine nest (result0 A B K c f fun i => ?_)
  refine next A B K ((receives_ag1 A B K c).1 _ _ _) fun r _ => ?_
  refine next A B K ((receives_ag1 A B K c).2.1 _ _) fun r _ => ?_
  refine next A B K ((receives_ag1 A B K c).2.2 _ _) fun r h => ?_
  subst h
  refine nest (result1 A B K c _ fun i' => ?_)
  rw [out_stores]
  obtain ⟨b1, b2, b3, b4, b5, b6, b7, b8⟩ := backs A B K c
  refine next A B K b1 fun r _ => ?_
  refine next A B K b2 fun r _ => ?_
  refine next A B K b3 fun r _ => ?_
  refine next A B K b4 fun r _ => ?_
  refine next A B K b5 fun r _ => ?_
  refine next A B K b6 fun r _ => ?_
  refine next A B K b7 fun r _ => ?_
  refine next A B K b8 fun r _ => ?_
  simp only [Prog.lift, Prog.bind_op, Prog.bind_ret, Prog.pure_eq_ret]
  refine ag_back A B K ?_
  exact hk

/-- What a device has at launch besides the records; -/
def Before (c : Dev nD) : sProp 𝕄 :=
  iprop((∃ W, owes (c : Thread nD τ) (O₀ c) W) ∗ (bigSep (Finset.univ.erase c) fun q : Dev nD => dutyTok ER (barCell q) 0 (c : Fin 8))
    ∗ (cred (tallyAt (barCell c) () 7) ∗ atPos ER (barCell c) 0 ∅ 0) ∗ (bigSep Finset.univ fun p : Cp => ready (F := F) c p)
    ∗ (∃ f, wholePart (F := F) c f) ∗ (∃ f : Buf3 F, (c : Thread nD τ).loc cc0_scratch1 ↦{fullShare} f) ∗ (∃ f : Buf3 F, (c : Thread nD τ).loc cc0_scratch2 ↦{fullShare} f))

/-- and at the end. -/
def After (c : Dev nD) : sProp 𝕄 :=
  iprop((∃ W, owes (c : Thread nD τ) 0 W) ∗ semVal (barCell c) 0 ∗ (bigSep Finset.univ fun p : Cp => closed (F := F) c p)
    ∗ (∃ f, wholePart (F := F) c f) ∗ (∃ f : Buf3 F, (c : Thread nD τ).loc cc0_scratch1 ↦{fullShare} f) ∗ (∃ f : Buf3 F, (c : Thread nD τ).loc cc0_scratch2 ↦{fullShare} f))

theorem sig_start (c : Dev nD) (f : (cc0_stg2_0 : Ref sig .tc).ty.Contents (Elt F)) :
    iprop(records A B K ∗ Before c ∗ aPts c (A c) ∗ bPts c (B c) ∗ outAt c f)
      ⊢ Sig A B K c 0 iprop(aPts c (A c) ∗ bPts c (B c) ∗ (∃ f, wholePart c f) ∗ gate c ∗ outAt c f) := by
  have hl : iprop((∃ f : Buf3 F, (c : Thread nD τ).loc cc0_scratch1 ↦{fullShare} f) ∗ (∃ f : Buf3 F, (c : Thread nD τ).loc cc0_scratch2 ↦{fullShare} f))
      ⊢ iprop(landing (F := F) c 0 ∗ bigSep (Finset.univ.erase c) fun q : Dev nD => landing (F := F) c (pos q c)) :=
    (landings_of_bufs c).trans (Entails.of_eq (landings_by_dev c))
  unfold Before Sig gate
  rw [untold_zero, bigSep_sep']
  iintro ⟨HR, ⟨HO, HT, HB, HY, HP, HL⟩, HA, HBB, Hf⟩
  ihave HL := hl $$ HL
  icases HL with ⟨HL0, HL⟩
  isplitl [HR]; · iexact HR
  isplitl [HO]; · unfold O₀; iexact HO
  isplitl [HT HL]
  · isplitl [HT] <;> iassumption
  isplitl [HA]; · iexact HA
  isplitl [HBB]; · iexact HBB
  isplitl [HP]; · iexact HP
  isplitr [Hf]
  · isplitl [HB]; · iexact HB
    isplitl [HY] <;> iassumption
  iexact Hf

theorem run_body (c : Dev nD) (f : (cc0_stg2_0 : Ref sig .tc).ty.Contents (Elt F)) {Q : PUnit → sProp 𝕄}
    (hQ : iprop(After c ∗ outAt c (outF A B c) ∗ aPts c (A c) ∗ bPts c (B c)) ⊢ Q ⟨⟩) :
    iprop(records A B K ∗ Before c ∗ aPts c (A c) ∗ bPts c (B c) ∗ outAt c f) ⊢ WP c (onRefs (cc0_body (F := F))) Q := by
  refine (sig_start A B K c f).trans ?_
  simp only [cc0_body_eq_skeleton]
  unfold cc0_body_skel
  refine long_part A B K c f ?_
  simp only [Prog.lift, Prog.bind_op, Prog.bind_ret, Prog.pure_eq_ret]
  refine rs_back A B K ?_
  refine ag_back A B K ?_
  show _ ⊢ wp frame (wpE (defs₀ (F := F)) 𝒱₀ (c : Thread nD τ) none) Set.univ (.ret ⟨⟩) Q
  rw [wp_ret]
  unfold St Left
  iintro ⟨-, HU, Hf, HS, HA, HB⟩
  ihave HU := (Run_end A B c) $$ HU
  icases HU with ⟨HO, HC, HP, HRS, HAG⟩
  imodintro
  iapply hQ
  unfold After
  isplitr [Hf HA HB]
  · isplitl [HO]; · iexact HO
    isplitl [HS]; · iexact HS
    isplitl [HC]; · iexact HC
    isplitl [HP]; · unfold wholePart; iexact HP
    isplitl [HRS] <;> iassumption
  isplitl [Hf]; · iexact Hf
  isplitl [HA] <;> iassumption

end Cert.XorProof

end
-- ==== Proof.Share.lean ====
/- What the launch deals out: every cell's invariant, the tokens brought to the devices that pay with them, and the credits
   that the devices' dues give each device. -/
module

public import proofs.«01_k».proof.Proof.Body

@[expose] public section

noncomputable section

namespace Cert.XorProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (A : Dev nD → Vec F S512x256 .bf16) (B : Dev nD → Vec F S256x512 .bf16)
variable (K : Dev nD × Option Key → ℕ)

/-! ## The cells and their tokens -/

/-- The copy semaphores, as the launch numbers them. -/
abbrev osem (k : Key) : SemLoc sig := .dma (dsem k)

theorem ownSemFacts : Pipeline.OwnSemFacts cfg0.spec osem where
  isScoped := by decide +kernel
  inj a b h := Option.some.inj (csem_inj (a₁ := some a) (a₂ := some b) h)
  disj := by decide +kernel

abbrev kcell (ck : Dev nD × Option Key) : GSem nD τ sig := cell ck.1 ck.2
def allCells : Finset (GSem nD τ sig) := Finset.univ.map ⟨kcell, cell_inj⟩

/-- A token for every cell and every duty number. -/
abbrev tokOf (x : (Dev nD × Option Key) × Fin 8) : GSem nD τ sig × ℕ × Fin 8 := (kcell x.1, 0, x.2)
theorem tokOf_inj : Function.Injective tokOf := fun x y h =>
  Prod.ext (cell_inj (congrArg Prod.fst h)) (congrArg (fun z : GSem nD τ sig × ℕ × Fin 8 => z.2.2) h)
def allToks : Finset (GSem nD τ sig × ℕ × Fin 8) := Finset.univ.map ⟨tokOf, tokOf_inj⟩

def u₀ : UU :=
  (initOf (Pipeline.cells cfgs cellOf_inj) (Pipeline.launchToks cfgs cellOf_inj), initOf allCells allToks)

/-- The tokens of device `c`'s own cells. -/
def toks (c : Dev nD) : sProp 𝕄 := bigSep Finset.univ fun o : Option Key => bigSep Finset.univ fun d : Fin 8 => dutyTok ER (cell c o) 0 d

/-- A device's positions and the reached-marks of its cells. -/
def places (c : Dev nD) : sProp 𝕄 :=
  iprop((bigSep Finset.univ fun o : Option Key => atPos ER (cell c o) 0 ∅ 0) ∗ bigSep Finset.univ fun o : Option Key => reached ER (cell c o) 0)

/-- What the launch gives device `c`. -/
def G (c : Dev nD) : sProp 𝕄 :=
  iprop((bigSep Finset.univ fun o : Option Key => roundState ER (Rd A B) (cell c o) 0) ∗ places c ∗ toks c)

theorem over_cells (Φ : GSem nD τ sig → sProp 𝕄) :
    bigSep allCells Φ = bigSep Finset.univ fun c : Dev nD => bigSep Finset.univ fun o : Option Key => Φ (cell c o) := by
  unfold allCells; rw [bigSep_map, bigSep_univ_prod]; rfl

theorem over_toks : bigSep allToks (fun x => (dutyTok ER x.1 x.2.1 x.2.2 : sProp 𝕄)) = bigSep Finset.univ fun c : Dev nD => toks c := by
  unfold allToks
  rw [bigSep_map, bigSep_univ_prod, bigSep_univ_prod]
  rfl

theorem fund_all : BI.own (ER (initOf allCells allToks)) ⊢ (|==> bigSep Finset.univ (G A B) : sProp 𝕄) := by
  iintro HX
  imod (Rounds.fund ER (Rd A B) allCells allToks) $$ HX with ⟨Hst, Hr, Hat, Htok⟩
  imodintro
  ihave Hst := (Entails.of_eq (over_cells fun g => roundState ER (Rd A B) g 0)) $$ Hst
  ihave Hat := (Entails.of_eq (over_cells fun g => (atPos ER g 0 ∅ 0 : sProp 𝕄))) $$ Hat
  ihave Hr := (Entails.of_eq (over_cells fun g => (reached ER g 0 : sProp 𝕄))) $$ Hr
  ihave Htok := (Entails.of_eq over_toks) $$ Htok
  unfold G places; simp only [bigSep_sep']
  isplitl [Hst]; · iexact Hst
  isplitl [Hat Hr]
  · isplitl [Hat] <;> iassumption
  iexact Htok

/-! ## Invariants -/

theorem over_option (Φ : Option Key → sProp 𝕄) : bigSep Finset.univ Φ = iprop(Φ none ∗ bigSep Finset.univ fun k : Key => Φ (some k)) := by
  rw [bigSep_univ_at Φ none, show (Finset.univ.erase none : Finset (Option Key)) = Finset.univ.map ⟨some, Option.some_injective _⟩ from by
    ext o; cases o <;> simp, bigSep_map]
  rfl

theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun o : Option Key => semVal (cell c o) 0 : sProp 𝕄) := by
  rw [unscopedSems0_eq, over_option]
  unfold Pipeline.ownSems0
  iintro ⟨HS, HB⟩
  isplitl [HB] <;> iassumption

theorem core_alloc (c : Dev nD) :
    iprop(Pipeline.ownSems0 (Ix := Unit) (Name := ℕ) (U := UU) (Lvl := ℕ) (Val := Elt F) (τ := τ) osem c ∗ unscopedSems0 c ∗ G A B c)
      ⊢ |={Set.univ}=> iprop((bigSep Finset.univ fun o : Option Key => iprop(∃ κ : ℕ, cellInv ER (Rd A B) κ (cell c o))) ∗ places c ∗ toks c) := by
  unfold G
  iintro ⟨Hos, Hus, Hst, Hat, Htok⟩
  ihave Hv := (sems0_eq (F := F) c) $$ [Hos Hus]
  · isplitl [Hos] <;> iassumption
  imod (show iprop((bigSep Finset.univ fun o : Option Key => semVal (cell c o) 0) ∗ bigSep Finset.univ fun o : Option Key => roundState ER (Rd A B) (cell c o) 0)
      ⊢ (|={Set.univ}=> bigSep Finset.univ fun o : Option Key => iprop(∃ κ : ℕ, cellInv ER (Rd A B) κ (cell c o)) : sProp 𝕄) from by
        rw [← bigSep_sep']
        exact (bigSep_mono fun o _ => (Rounds.body_intro ER (Rd A B) (cell c o)).trans inv_alloc).trans (bigSep_fupd _ _)) $$ [Hv Hst] with Hinv
  · isplitl [Hv] <;> iassumption
  imodintro
  isplitl [Hinv]; · iexact Hinv
  isplitl [Hat] <;> iassumption

/-! ## The tokens brought to who pays with them -/

/-- The tokens device `c` pays with. -/
def payToks (c : Dev nD) : sProp 𝕄 :=
  iprop((bigSep (Finset.univ.erase c) fun q : Dev nD => dutyTok ER (barCell q) 0 (c : Fin 8)) ∗ bigSep Finset.univ fun p : Cp => tok c p)

/-- Trading places with the partner at relative position `x`. -/
def swapAt (x : Fin 8) : Dev nD ≃ Dev nD := ⟨fun c => peer c x, fun c => peer c x, fun c => peer_peer c x, fun c => peer_peer c x⟩

/-- Every device's receive tokens are its partners'. -/
theorem recv_around :
    (bigSep Finset.univ fun c : Dev nD => bigSep Finset.univ fun p : Cp => (dutyTok ER (recvCell c p) 0 (0 : Fin 8) : sProp 𝕄))
      = bigSep Finset.univ fun c : Dev nD => bigSep Finset.univ fun p : Cp => dutyTok ER (recvCell (peer c p.2.2) p) 0 (0 : Fin 8) := by
  rw [bigSep_univ_comm, bigSep_univ_comm (fun (c : Dev nD) (p : Cp) => (dutyTok ER (recvCell (peer c p.2.2) p) 0 (0 : Fin 8) : sProp 𝕄))]
  exact bigSep_congr fun p _ => bigSep_univ_equiv (swapAt p.2.2) fun c : Dev nD => (dutyTok ER (recvCell c p) 0 (0 : Fin 8) : sProp 𝕄)

/-- Every device's barrier tokens but its own are the other devices'. -/
theorem bar_around :
    (bigSep Finset.univ fun c : Dev nD => bigSep Finset.univ fun d : Dev nD => (dutyTok ER (barCell c) 0 (d : Fin 8) : sProp 𝕄))
      ⊢ bigSep Finset.univ fun c : Dev nD => bigSep (Finset.univ.erase c) fun q : Dev nD => dutyTok ER (barCell q) 0 (c : Fin 8) := by
  rw [← bigSep_erase_comm fun c d : Dev nD => (dutyTok ER (barCell c) 0 (d : Fin 8) : sProp 𝕄)]
  exact bigSep_mono fun c _ => bigSep_subset (Finset.erase_subset _ _)

theorem toks_split (c : Dev nD) : (toks c : sProp 𝕄)
    ⊢ iprop((bigSep Finset.univ fun d : Dev nD => dutyTok ER (barCell c) 0 (d : Fin 8))
      ∗ (bigSep Finset.univ fun p : Cp => dutyTok ER (sendCell c p) 0 (0 : Fin 8)) ∗ bigSep Finset.univ fun p : Cp => dutyTok ER (recvCell c p) 0 (0 : Fin 8)) := by
  unfold toks
  rw [over_option]
  refine sep_mono_right ?_
  refine (bigSep_mono fun k _ => bigSep_elim (Finset.mem_univ (0 : Fin 8))).trans ?_
  rw [bigSep_univ_prod, bigSep_fin_two]
  exact BI.Entails.refl _

theorem toks_around : (bigSep Finset.univ fun c : Dev nD => (toks c : sProp 𝕄)) ⊢ bigSep Finset.univ fun c : Dev nD => payToks c := by
  refine (bigSep_mono fun c _ => toks_split c).trans ?_
  unfold payToks tok
  simp only [bigSep_sep']
  show iprop((bigSep Finset.univ fun c : Dev nD => bigSep Finset.univ fun d : Dev nD => (dutyTok ER (barCell c) 0 (d : Fin 8) : sProp 𝕄))
      ∗ (bigSep Finset.univ fun c : Dev nD => bigSep Finset.univ fun p : Cp => dutyTok ER (sendCell c p) 0 (0 : Fin 8))
      ∗ bigSep Finset.univ fun c : Dev nD => bigSep Finset.univ fun p : Cp => dutyTok ER (recvCell c p) 0 (0 : Fin 8)) ⊢ iprop(_ ∗ _ ∗ _)
  iintro ⟨H1, H2, H3⟩
  isplitl [H1]; · iapply bar_around; iexact H1
  isplitl [H2]; · iexact H2
  iapply (Entails.of_eq recv_around); iexact H3

/-! ## The global step -/

/-- What stays with device `c`. -/
def linear (c : Dev nD) : sProp 𝕄 :=
  iprop((bigSep Finset.univ fun o : Option Key => atPos ER (cell c o) 0 ∅ 0) ∗ payToks c)

/-- Every cell's invariant, at the names `K`, and reached-mark. -/
def opened : sProp 𝕄 :=
  iprop((bigSep Finset.univ fun ck : Dev nD × Option Key => cellInv ER (Rd A B) (K ck) (cell ck.1 ck.2))
    ∗ bigSep Finset.univ fun ck : Dev nD × Option Key => reached ER (cell ck.1 ck.2) 0)

instance opened_persistent : BI.Persistent (opened A B K) := by unfold opened; infer_instance

def G' (c : Dev nD) : sProp 𝕄 := iprop(∃ K, opened A B K ∗ linear c)

theorem regroup :
    (bigSep Finset.univ fun c : Dev nD => iprop((bigSep Finset.univ fun o : Option Key => iprop(∃ κ : ℕ, cellInv ER (Rd A B) κ (cell c o))) ∗ places c ∗ toks c) : sProp 𝕄)
      ⊢ bigSep Finset.univ (G' A B) := by
  unfold places
  rw [bigSep_sep', bigSep_sep', bigSep_sep', ← bigSep_univ_prod (fun ck : Dev nD × Option Key => iprop(∃ κ : ℕ, cellInv ER (Rd A B) κ (kcell ck))),
    ← bigSep_univ_prod (fun ck : Dev nD × Option Key => (reached ER (kcell ck) 0 : sProp 𝕄))]
  iintro ⟨HI, ⟨Hat, #HR⟩, Htok⟩
  ihave HK := (BI.bigSep_exists_pi Finset.univ (fun (ck : Dev nD × Option Key) (κ : ℕ) => (cellInv ER (Rd A B) κ (kcell ck) : sProp 𝕄))) $$ HI
  icases HK with ⟨%K, #HI⟩
  ihave Htk := (toks_around (F := F)) $$ Htok
  iapply (bigSep_with_persistent (R := opened A B K) (Φ := linear) fun c _ => show iprop(opened A B K ∗ linear c) ⊢ G' A B c from by
    unfold G'; iintro H; iexists K; iexact H)
  isplitr
  · unfold opened; isplitl; · iexact HI
    iexact HR
  · unfold linear
    rw [bigSep_sep']
    isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G A B c) : sProp 𝕄)
    ⊢ |={Set.univ}=> bigSep Finset.univ (G' A B) :=
  ((bigSep_mono fun c _ => core_alloc A B c).trans (bigSep_fupd _ _)).trans (BI.fupd_mono (regroup A B))

/-! ## The credits -/

/-- What device `d` owes the receive cell of copy `p` on device `c`. -/
theorem dues_at (d c : Dev nD) (p : Cp) (hp : p ∈ allCp) : dues d allCp (recvCell c p) () = if d = peer c p.2.2 then N else 0 := by
  unfold dues
  rw [Finset.sum_apply, Finsupp.finset_sum_apply, Finset.sum_eq_single_of_mem p hp fun q _ hq => ?_, tallyAt_apply]
  · refine if_congr ⟨fun h => ?_, fun h => ?_⟩ rfl rfl
    · have : (c, some (1, p)) = (peer d p.2.2, some ((1 : Fin 2), p)) := cell_inj h.1
      rw [show c = peer d p.2.2 from congrArg Prod.fst this, peer_peer]
    · rw [h, peer_peer]; exact ⟨rfl, rfl⟩
  · rw [tallyAt_apply]
    refine if_neg fun h => hq ?_
    have : (c, some ((1 : Fin 2), p)) = (peer d q.2.2, some ((1 : Fin 2), q)) := cell_inj h.1
    have := Option.some.inj (Prod.ext_iff.mp this).2
    exact ((Prod.ext_iff.mp this).2).symm

theorem barDues_at (d c : Dev nD) : barDues (Finset.univ.erase d) (barCell c) () = if c ≠ d then 1 else 0 := by
  unfold barDues
  rw [Finset.sum_apply, Finsupp.finset_sum_apply, Finset.sum_congr rfl fun q _ => (show (tallyAt (barCell q) () 1 : CellTallies nD τ sig Unit) (barCell c) () = if q = c then 1 else 0 from by
    rw [tallyAt_apply]
    refine if_congr ⟨fun h => ?_, fun h => ?_⟩ rfl rfl
    · exact (congrArg Prod.fst (cell_inj (a₁ := (c, none)) (a₂ := (q, none)) h.1)).symm
    · subst h; exact ⟨rfl, rfl⟩), Finset.sum_ite_eq']
  exact if_congr (by rw [Finset.mem_erase]; exact ⟨fun h => h.1, fun h => ⟨h, Finset.mem_univ _⟩⟩) rfl rfl

theorem launch_recv (c : Dev nD) (p : Cp) (hp : p ∈ allCp) :
    tallyOn (recvCell c p) (launchCredit (Pipeline.owing fun d => dues d allCp) 0 (recvCell c p)) = (tallyAt (recvCell c p) () N : CellTallies nD τ sig Unit) := by
  unfold tallyAt; refine congrArg _ (Finsupp.ext fun u => ?_); cases u
  rw [Pipeline.launchCredit_owing, Finsupp.single_eq_same, Finset.sum_congr rfl fun d _ => dues_at d c p hp,
    Finset.sum_ite_eq' Finset.univ (peer c p.2.2) fun _ => N, if_pos (Finset.mem_univ _)]

theorem seven (c : Dev nD) : (∑ d : Dev nD, if c ≠ d then 1 else 0) = 7 := by revert c; decide +kernel

theorem launch_bar (c : Dev nD) :
    tallyOn (barCell c) (launchCredit (Pipeline.owing fun d => barDues (Finset.univ.erase d)) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => barDues_at d c, seven]

/-- The receive semaphores among all semaphores. -/
def recvSem : Cp ↪ SemLoc sig := ⟨fun p => .dma (dsem (1, p)), fun p q h => by
  have := csem_inj (a₁ := some (1, p)) (a₂ := some (1, q)) h
  exact (Prod.ext_iff.mp (Option.some.inj this)).2⟩

theorem creds (c : Dev nD) :
    (Pipeline.launchCred O₀ c : sProp 𝕄)
      ⊢ iprop(cred (tallyAt (barCell c) () 7) ∗ bigSep Finset.univ fun p : Cp => if p.2.2 ≠ 0 then cred (tallyAt (recvCell c p) () N) else iprop(emp)) := by
  rw [show (O₀ : Dev nD → CellTallies nD τ sig Unit) = fun d => dues d allCp + barDues (Finset.univ.erase d) from rfl, Pipeline.launchCred_add]
  have h1 : (Pipeline.launchCred (fun d : Dev nD => dues d allCp) c : sProp 𝕄)
      ⊢ bigSep Finset.univ fun p : Cp => if p.2.2 ≠ 0 then cred (tallyAt (recvCell c p) () N) else iprop(emp) := by
    unfold Pipeline.launchCred
    refine (bigSep_subset (Finset.subset_univ (allCp.map recvSem))).trans ?_
    rw [bigSep_map]
    have e : (bigSep allCp fun p : Cp => (cred (tallyAt (recvCell c p) () N) : sProp 𝕄))
        = bigSep Finset.univ fun p : Cp => if p.2.2 ≠ 0 then cred (tallyAt (recvCell c p) () N) else iprop(emp) :=
      (bigSep_filter Finset.univ (fun p : Cp => p.2.2 ≠ 0) fun p => (cred (tallyAt (recvCell c p) () N) : sProp 𝕄)).trans
        (bigSep_congr fun p _ => by split <;> rfl)
    rw [← e]
    exact bigSep_mono fun p hp => Entails.of_eq (congrArg cred (launch_recv c p hp))
  have h2 : (Pipeline.launchCred (fun d : Dev nD => barDues (Finset.univ.erase d)) c : sProp 𝕄) ⊢ cred (tallyAt (barCell c) () 7) := by
    rw [← launch_bar]; exact Pipeline.launchCred_elim _ c _
  iintro ⟨H1, H2⟩
  isplitl [H2]
  · iapply h2; iexact H2
  iapply h1; iexact H1

/-! ## A device at its start -/

/-- What device `c`'s body starts from besides its buffers and dues. -/
def start (c : Dev nD) : sProp 𝕄 :=
  iprop((∃ K, records A B K) ∗ (bigSep (Finset.univ.erase c) fun q : Dev nD => dutyTok ER (barCell q) 0 (c : Fin 8))
    ∗ (cred (tallyAt (barCell c) () 7) ∗ atPos ER (barCell c) 0 ∅ 0) ∗ bigSep Finset.univ fun p : Cp => ready (F := F) c p)

theorem places_split (c : Dev nD) : (bigSep Finset.univ fun o : Option Key => atPos ER (cell c o) 0 ∅ 0 : sProp 𝕄)
    ⊢ iprop(atPos ER (barCell c) 0 ∅ 0
      ∗ (bigSep Finset.univ fun p : Cp => atPos ER (sendCell c p) 0 ∅ 0) ∗ bigSep Finset.univ fun p : Cp => atPos ER (recvCell c p) 0 ∅ 0) := by
  rw [over_option]
  refine sep_mono_right ?_
  rw [bigSep_univ_prod, bigSep_fin_two]
  exact BI.Entails.refl _

theorem ready_all (c : Dev nD) :
    iprop((bigSep Finset.univ fun p : Cp => atPos ER (sendCell c p) 0 ∅ 0) ∗ (bigSep Finset.univ fun p : Cp => atPos ER (recvCell c p) 0 ∅ 0)
      ∗ (bigSep Finset.univ fun p : Cp => tok c p) ∗ bigSep Finset.univ fun p : Cp => if p.2.2 ≠ 0 then cred (tallyAt (recvCell c p) () N) else iprop(emp))
      ⊢ (bigSep Finset.univ fun p : Cp => ready c p : sProp 𝕄) := by
  rw [← bigSep_sep', ← bigSep_sep', ← bigSep_sep']
  refine bigSep_mono fun p _ => ?_
  show iprop(atPos ER (sendCell c p) 0 ∅ 0 ∗ atPos ER (recvCell c p) 0 ∅ 0 ∗ tok c p ∗ if p.2.2 ≠ 0 then cred (tallyAt (recvCell c p) () N) else iprop(emp)) ⊢ ready (F := F) c p
  unfold ready
  by_cases h : p.2.2 ≠ 0
  · rw [if_pos h, if_pos h]
    iintro ⟨H1, H2, H3, H4⟩
    isplitl [H1 H2]
    · isplitl [H2] <;> iassumption
    isplitl [H3] <;> iassumption
  · rw [if_neg h, if_neg h]
    iintro ⟨H1, H2, -, -⟩
    isplitl [H1 H2]
    · isplitl [H2] <;> iassumption
    iempintro

theorem start_of_shares (c : Dev nD) : iprop(levAts L lv ∗ Pipeline.launchCred O₀ c ∗ G' A B c) ⊢ start A B c := by
  unfold G' opened linear payToks start records
  simp only [bigSep_sep']
  iintro ⟨HL, HC, ⟨%K, ⟨HI, HR⟩, HA, HT, HP⟩⟩
  ihave HC := (creds (F := F) c) $$ HC
  icases HC with ⟨HC, HCR⟩
  ihave HA := (places_split (F := F) c) $$ HA
  icases HA with ⟨HB, HS, HV⟩
  isplitl [HL HI HR]
  · iexists K
    isplitl [HI HR]
    · isplitl [HI] <;> iassumption
    iexact HL
  isplitl [HT]; · iexact HT
  isplitl [HC HB]
  · isplitl [HC] <;> iassumption
  iapply (ready_all c)
  isplitl [HS]; · iexact HS
  isplitl [HV]; · iexact HV
  isplitl [HP] <;> iassumption

end Cert.XorProof

end
-- ==== Proof.Launch.lean ====
/- The launch: the proof data of the one kernel region, the body's obligation, and the run of the whole mesh from any memory,
   at any float values. -/
module

public import proofs.«01_k».proof.Proof.Share
public import proofs.«01_k».proof.Proof.Gen.KernelIdeal.Points
public import Idealize.ShloMosaic.Lib.Pipeline.CollectiveSegs

@[expose] public section

noncomputable section

namespace Cert.XorProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (A : Dev nD → Vec F S512x256 .bf16) (B : Dev nD → Vec F S256x512 .bf16)
variable (K : Dev nD × Option Key → ℕ)

variable (m : (ℓ : Loc nD τ sig) → Buf (Elt F) ℓ) (ρ : Dev nD → PrngReg)

/-- The memory at launch. -/
def s₀ : MemSt nD τ sig (Elt F) := ⟨m, fun _ => 0, ρ⟩

/-- The device's operands as staged. -/
def aIn (c : Dev nD) : Vec F S512x256 .bf16 := (win0_0.blk t0_0).view.read (Elt F) ((s₀ m ρ).mem ((c : Thread nD τ).loc main_arg0))
def bIn (c : Dev nD) : Vec F S256x512 .bf16 := (win0_1.blk t0_0).view.read (Elt F) ((s₀ m ρ).mem ((c : Thread nD τ).loc main_arg1))

/-- The result of device `c`. -/
def result (c : Dev nD) : (cc0_stg2_0 : Ref sig .tc).ty.Contents (Elt F) := outF (aIn m ρ) (bIn m ρ) c

def Φ₀ (c : Dev nD) : sProp 𝕄 :=
  iprop(start (aIn m ρ) (bIn m ρ) c ∗ (∃ f, wholePart (F := F) c f)
    ∗ (∃ f : Buf3 F, (c : Thread nD τ).loc cc0_scratch1 ↦{fullShare} f) ∗ (∃ f : Buf3 F, (c : Thread nD τ).loc cc0_scratch2 ↦{fullShare} f))
def Φ₁ (c : Dev nD) : sProp 𝕄 :=
  iprop(semVal (barCell c) 0 ∗ (bigSep Finset.univ fun p : Cp => closed (F := F) c p)
    ∗ (∃ f, wholePart (F := F) c f) ∗ (∃ f : Buf3 F, (c : Thread nD τ).loc cc0_scratch1 ↦{fullShare} f) ∗ (∃ f : Buf3 F, (c : Thread nD τ).loc cc0_scratch2 ↦{fullShare} f))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => aIn m ρ c
    | ⟨1, _⟩ => bIn m ρ c
    | ⟨2, _⟩ => result m ρ c
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ ((c : Thread nD τ).loc b ↦{fullShare} f)) := by
  unfold owns; simp only [Memref.view_whole, View.read_whole, View.set_whole]

/-- A staging buffer at contents `X`. -/
abbrev stg (c : Dev nD) (b : Ref sig .tc) (X : b.ty.Contents (Elt F)) : sProp 𝕄 :=
  iprop(∃ f : Buf (Elt F) ((c : Thread nD τ).loc b), ⌜f = X⌝ ∗ ((c : Thread nD τ).loc b ↦{fullShare} f))

theorem before_a (c : Dev nD) (d) : (dats m ρ 0 c).before (0 : Fin 3) t0_0 d = aIn m ρ c := by
  unfold Dat.before; rw [if_pos (fetch0_0 t0_0)]; rfl
theorem before_b (c : Dev nD) (d) : (dats m ρ 0 c).before (1 : Fin 3) t0_0 d = bIn m ρ c := by
  unfold Dat.before; rw [if_pos (fetch0_1 t0_0)]; rfl

def bodyPre (c : Dev nD) : sProp 𝕄 :=
  iprop(Φ₀ m ρ c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

def bodyPost (c : Dev nD) : sProp 𝕄 :=
  iprop(Φ₁ c ∗ (dats m ρ 0 c).owesAt () t0_0.succ ∗ stg c cc0_stg0_0 (aIn m ρ c) ∗ stg c cc0_stg1_0 (bIn m ρ c) ∗ stg c cc0_stg2_0 (result m ρ c))

theorem body_end (c : Dev nD) :
    iprop(After c ∗ outAt c (outF (aIn m ρ) (bIn m ρ) c) ∗ aPts c (aIn m ρ c) ∗ bPts c (bIn m ρ c)) ⊢ bodyPost m ρ c := by
  unfold After bodyPost Φ₁ Dat.owesAt Pipeline.owesWithin outAt aPts bPts
  rw [show (dats m ρ 0 c).owed t0_0.succ = 0 from rfl]
  iintro ⟨⟨⟨%W, HO⟩, HS, HC, HP, HRS, HAG⟩, Hf, HA, HB⟩
  isplitl [HS HC HP HRS HAG]
  · isplitl [HS]; · iexact HS
    isplitl [HC]; · iexact HC
    isplitl [HP]; · iexact HP
    isplitl [HRS] <;> iassumption
  isplitl [HO]
  · iexists W
    isplitr; · ipureintro; exact fun _ _ => Or.inl trivial
    iexact HO
  isplitl [HA]
  · iexists _; isplitr; · (ipureintro; rfl)
    iexact HA
  isplitl [HB]
  · iexists _; isplitr; · (ipureintro; rfl)
    iexact HB
  iexists _; isplitr; · (ipureintro; rfl)
  iexact Hf

theorem body_run (c : Dev nD) :
    bodyPre m ρ c ⊢ WP c (onRefs (cc0_body (F := F))) fun _ => bodyPost m ρ c := by
  unfold bodyPre Φ₀ start Dat.owesAt Pipeline.owesWithin
  rw [show (dats m ρ 0 c).owed t0_0.castSucc = O₀ c from rfl]
  iintro ⟨⟨⟨⟨%K, HR⟩, HT, HY, HRd⟩, HP, HRS, HAG⟩, ⟨%W, %hW, HO⟩, ⟨%d0, %f0, %h0, H0⟩, ⟨%d1, %f1, %h1, H1⟩, ⟨%d2, %f2, %h2, H2⟩⟩
  have e0 : f0 = aIn m ρ c := h0.trans (before_a m ρ c d0)
  have e1 : f1 = bIn m ρ c := h1.trans (before_b m ρ c d1)
  subst e0
  subst e1
  iapply (run_body (aIn m ρ) (bIn m ρ) K c f2 (body_end m ρ c))
  unfold Before aPts bPts outAt
  isplitl [HR]; · iexact HR
  isplitl [HO HT HY HRd HP HRS HAG]
  · isplitl [HO]; · iexists W; iexact HO
    isplitl [HT]; · iexact HT
    isplitl [HY]; · iexact HY
    isplitl [HRd]; · iexact HRd
    isplitl [HP]; · iexact HP
    isplitl [HRS] <;> iassumption
  isplitl [H0]; · iexact H0
  isplitl [H1] <;> iassumption

/-- The library's body obligation. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  exact body_run m ρ c

/-! ## The theorem's side conditions -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (aIn m ρ) (bIn m ρ) c)
      ⊢ |={Set.univ}=> iprop(start (aIn m ρ) (bIn m ρ) c ∗ emp) := by
  iintro ⟨-, HL, HC, -, HG⟩
  imodintro
  isplitl
  · iapply (start_of_shares (aIn m ρ) (bIn m ρ) c)
    isplitl [HL]; · iexact HL
    isplitl [HC] <;> iassumption
  · iempintro

theorem phi0_intro (c : Dev nD) :
    iprop(start (aIn m ρ) (bIn m ρ) c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ wholePart
  iintro ⟨Hs, -, Hr⟩
  isplitl [Hs] <;> iassumption

theorem own_closed (c : Dev nD) :
    (bigSep Finset.univ fun p : Cp => closed (F := F) c p) ⊢ (Pipeline.ownSems0 (Ix := Unit) (Name := ℕ) (U := UU) (Lvl := ℕ) (Val := Elt F) (τ := τ) osem c : sProp 𝕄) := by
  unfold closed Pipeline.ownSems0
  rw [bigSep_sep', bigSep_univ_prod (fun k : Key => (semVal ((c.tc : Thread nD τ), osem k) 0 : sProp 𝕄)), bigSep_fin_two]
  show iprop((bigSep Finset.univ fun p : Cp => semVal (recvCell c p) 0) ∗ bigSep Finset.univ fun p : Cp => semVal (sendCell c p) 0)
    ⊢ iprop((bigSep Finset.univ fun p : Cp => semVal (sendCell c p) 0) ∗ bigSep Finset.univ fun p : Cp => semVal (recvCell c p) 0)
  iintro ⟨H1, H2⟩
  isplitl [H2] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, unscopedSems0_eq]
  unfold Φ₁ wholePart
  iintro ⟨HB, HC, Hr⟩
  isplitl [HB]; · iexact HB
  isplitl [HC]
  · iapply (own_closed c); iexact HC
  iexact Hr

theorem stage_level : ∀ (w : Fin 3) (s : Fin (cfg0.win w).nbuf), lvS (.dma ((cfg0.win w).sem s)) = 0 := by decide +kernel

theorem waits (c : Dev nD) : (levAts L lv : sProp 𝕄) ⊢ Pipeline.cellsWaits cfgs (dats m ρ) () 0 c :=
  Pipeline.cellsWaits_intro cfgs (dats m ρ) () 0 c fun w s t =>
    mayWait_start c _ (stage_level w s) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters, for any float values: every weakly fair execution of the eight devices terminates,
    with each device's arrays at the computed contents and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (aIn m ρ) (bIn m ρ)) (G' := G' (aIn m ρ) (bIn m ρ)) (u₀ := u₀)
    (hu₀ := by
      unfold u₀
      iintro Hu
      ihave H := (ownU_pair _ _) $$ Hu
      icases H with ⟨HP, HX⟩
      imod (fund_all (aIn m ρ) (bIn m ρ)) $$ HX with HG
      imodintro
      isplitl [HP] <;> iassumption)
    (hglob := glob (aIn m ρ) (bIn m ρ))
    (hA := fun _ _ => rfl) (hpf := fun _ k => k.elim0)
    (X := start (aIn m ρ) (bIn m ρ)) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operands after the run hold what they held. -/
theorem finalA_a (c : Dev nD) : finalA m ρ c (0 : Fin 3) = m ((c : Thread nD τ).loc main_arg0) := (dats (F := F) m ρ 0 c).arrAt_in (0 : Fin 3) rfl _
theorem finalA_b (c : Dev nD) : finalA m ρ c (1 : Fin 3) = m ((c : Thread nD τ).loc main_arg1) := (dats (F := F) m ρ 0 c).arrAt_in (1 : Fin 3) rfl _

end Cert.XorProof

end
-- ==== Proof.Permute.lean ====
/-
# Exchanging the eight row blocks by the device's own number

The body exchanges the eight blocks of a stack three times, once for each bit of the device's number that is set.
Together the exchanges put block `peer c j` at place `j`.
-/
module

public import proofs.«01_k».proof.Proof.Contents
public import Idealize.ShloMosaic.Lib.Pointwise

@[expose] public section

noncomputable section

namespace Cert.XorProof

open Cert.KernelIdeal Cert.KernelIdeal.Gen
open Idealize.ShloMosaic Idealize.ShloMosaic.TcCoe

variable {F : FTy → Type} [FloatOps F]

/-- The stack with block `f j` at place `j`. -/
def placed (f : Fin 8 → Fin 8) (T : FVec F S8x64x256 .bf16) : FVec F S8x64x256 .bf16 := fun i => T (ix3 (f (i 0)) (i 1) (i 2))

theorem placed_placed (f g : Fin 8 → Fin 8) (T : FVec F S8x64x256 .bf16) : placed f (placed g T) = placed (fun j => g (f j)) T := rfl

theorem placed_id (T : FVec F S8x64x256 .bf16) : placed (fun j => j) T = T := funext fun i => congrArg T (eq_ix3 i).symm

/-- One block of the stack. -/
abbrev blk (o : ℕ) (T : FVec F S8x64x256 .bf16) (h : S8x64x256.Slices ![o, 0, 0] S1x64x256) : (s : Shape) × (s.Idx → F .bf16) :=
  ⟨S1x64x256, extractStridedSlice S1x64x256 ![o, 0, 0] T h⟩

/-- A choice of block for each place of the stack, read at one place. -/
theorem at_place (T : FVec F S8x64x256 .bf16) (i0 : Fin 8) (i1 : Fin 64) (i2 : Fin 256) (x : Fin 8) (k : Fin 8) (n : ℕ)
    (hn : i0.val = n) (hk : k.val = (n ^^^ x.val) % 8) :
    T (ix3 k i1 i2) = T (ix3 (peer i0 x) i1 i2) := congrArg (fun k => T (ix3 k i1 i2)) (Fin.ext (hk.trans (congrArg (fun n => (n ^^^ x.val) % 8) hn.symm)))

theorem swap4 (T : FVec F S8x64x256 .bf16) h :
    concatenate S8x64x256 0 [blk 4 T slices_S8x64x256_o4_0_0_S1x64x256, blk 5 T slices_S8x64x256_o5_0_0_S1x64x256, blk 6 T slices_S8x64x256_o6_0_0_S1x64x256, blk 7 T slices_S8x64x256_o7_0_0_S1x64x256, blk 0 T slices_S8x64x256_o0_0_0_S1x64x256, blk 1 T slices_S8x64x256_o1_0_0_S1x64x256, blk 2 T slices_S8x64x256_o2_0_0_S1x64x256, blk 3 T slices_S8x64x256_o3_0_0_S1x64x256] h
      = placed (fun j => peer j 4) T := by
  funext i
  idx_vars i
  unfold placed
  pointwise
  fin_vals i0 with hk
  all_goals simp only [hk, Nat.reduceSub, Nat.reduceLT, ↓reduceDIte]
  all_goals exact at_place T i0 i1 i2 4 _ _ hk rfl

theorem swap2 (T : FVec F S8x64x256 .bf16) h :
    concatenate S8x64x256 0 [blk 2 T slices_S8x64x256_o2_0_0_S1x64x256, blk 3 T slices_S8x64x256_o3_0_0_S1x64x256, blk 0 T slices_S8x64x256_o0_0_0_S1x64x256, blk 1 T slices_S8x64x256_o1_0_0_S1x64x256, blk 6 T slices_S8x64x256_o6_0_0_S1x64x256, blk 7 T slices_S8x64x256_o7_0_0_S1x64x256, blk 4 T slices_S8x64x256_o4_0_0_S1x64x256, blk 5 T slices_S8x64x256_o5_0_0_S1x64x256] h
      = placed (fun j => peer j 2) T := by
  funext i
  idx_vars i
  unfold placed
  pointwise
  fin_vals i0 with hk
  all_goals simp only [hk, Nat.reduceSub, Nat.reduceLT, ↓reduceDIte]
  all_goals exact at_place T i0 i1 i2 2 _ _ hk rfl

theorem swap1 (T : FVec F S8x64x256 .bf16) h :
    concatenate S8x64x256 0 [blk 1 T slices_S8x64x256_o1_0_0_S1x64x256, blk 0 T slices_S8x64x256_o0_0_0_S1x64x256, blk 3 T slices_S8x64x256_o3_0_0_S1x64x256, blk 2 T slices_S8x64x256_o2_0_0_S1x64x256, blk 5 T slices_S8x64x256_o5_0_0_S1x64x256, blk 4 T slices_S8x64x256_o4_0_0_S1x64x256, blk 7 T slices_S8x64x256_o7_0_0_S1x64x256, blk 6 T slices_S8x64x256_o6_0_0_S1x64x256] h
      = placed (fun j => peer j 1) T := by
  funext i
  idx_vars i
  unfold placed
  pointwise
  fin_vals i0 with hk
  all_goals simp only [hk, Nat.reduceSub, Nat.reduceLT, ↓reduceDIte]
  all_goals exact at_place T i0 i1 i2 1 _ _ hk rfl

/-- Place `j` exchanged with place `peer j x` where `b` holds. -/
def exchanged (b : Bool) (x : Fin 8) (j : Fin 8) : Fin 8 := if b then peer j x else j

theorem pick (b : Bool) (w : BitVec 1) (hw : w = if b then 1#1 else 0#1) (x : Fin 8) (T : FVec F S8x64x256 .bf16) :
    Scalar.select w (placed (fun j => peer j x) T) T = placed (exchanged b x) T := by
  subst hw
  cases b
  · exact (placed_id T).symm
  · rfl

theorem bit4 (c : Dev nD) : Scalar.cmpi .ne (Scalar.andi (word c) 4#32) 0#32 = if c.val.testBit 2 then 1#1 else 0#1 := by
  revert c; decide
theorem bit2 (c : Dev nD) : Scalar.cmpi .ne (Scalar.andi (word c) 2#32) 0#32 = if c.val.testBit 1 then 1#1 else 0#1 := by
  revert c; decide
theorem bit1 (c : Dev nD) : Scalar.cmpi .ne (Scalar.andi (word c) 1#32) 0#32 = if c.val.testBit 0 then 1#1 else 0#1 := by
  revert c; decide

/-- The three exchanges together. -/
theorem exchanged_all (c : Dev nD) :
    (fun j => exchanged (c.val.testBit 2) 4 (exchanged (c.val.testBit 1) 2 (exchanged (c.val.testBit 0) 1 j))) = peer c := by
  funext j; revert c j; decide

theorem placed_all (c : Dev nD) (T : FVec F S8x64x256 .bf16) :
    placed (exchanged (c.val.testBit 0) 1) (placed (exchanged (c.val.testBit 1) 2) (placed (exchanged (c.val.testBit 2) 4) T)) = placed (peer c) T := by
  rw [placed_placed, placed_placed, exchanged_all]

/-! ## The three places where the body does this -/

/-- The product of the exchanged left blocks with the right block. -/
theorem pay2_eq (c : Dev nD) (T : FVec F S8x64x256 .bf16) (b : Vec F S256x512 .bf16) :
    k0_pay2 (word c) T b = matmul dot_S512x256_S256x512_S512x512_1_0_0_1_n_n none
      (shapeCast S512x256 (placed (peer c) T) shapeCasts_S8x64x256_S512x256) (shapeCast S256x512 b shapeCasts_S256x512_S256x512)
      (constant S512x512 .f32 0x00000000#32) := by
  dsimp only [k0_pay2]
  rw [swap4, pick _ _ (bit4 c), swap2, pick _ _ (bit2 c), swap1, pick _ _ (bit1 c), placed_all]

/-- The first half of the result. -/
theorem pay20_eq (c : Dev nD) (v : Vec F S1x8x64x256 .bf16) :
    k0_pay20 (word c) v = shapeCast S512x256 (placed (peer c) (shapeCast S8x64x256 v shapeCasts_S1x8x64x256_S8x64x256)) shapeCasts_S8x64x256_S512x256 := by
  dsimp only [k0_pay20]
  rw [swap4, pick _ _ (bit4 c), swap2, pick _ _ (bit2 c), swap1, pick _ _ (bit1 c), placed_all]

/-- The second half of the result. -/
theorem pay22_eq (c : Dev nD) (v : Vec F S1x8x64x256 .bf16) :
    k0_pay22 (word c) (k0_pay21 (word c) v) 2#32
      = shapeCast S512x256 (placed (peer c) (shapeCast S8x64x256 v shapeCasts_S1x8x64x256_S8x64x256)) shapeCasts_S8x64x256_S512x256 := by
  dsimp only [k0_pay22, k0_pay21]
  rw [swap4, pick _ _ (bit4 c), swap2, pick _ _ (bit2 c), swap1, pick _ _ (bit1 c), placed_all]

end Cert.XorProof

end
-- ==== Proof.Value.lean ====
/-
# What the buffers hold, at exact arithmetic
-/
module

public import proofs.«01_k».proof.Proof.Permute
public import Idealize.ShloMosaic.Lib.Pointwise

@[expose] public section

noncomputable section

namespace Cert.XorProof

open Cert.KernelIdeal Cert.KernelIdeal.Gen
open Idealize.ShloMosaic Idealize.ShloMosaic.TcCoe

variable (A : Dev nD → Vec Ideal S512x256 .bf16) (B : Dev nD → Vec Ideal S256x512 .bf16)

/-- Row `r` of row block `j`. -/
def rowOf (j : Fin 8) (r : Fin 64) : Fin 512 := ⟨j.val * 64 + r.val, by have := j.isLt; have := r.isLt; omega⟩
/-- Column `l` of column half `h`. -/
def colOf (h : Fin 2) (l : Fin 256) : Fin 512 := ⟨h.val * 256 + l.val, by have := h.isLt; have := l.isLt; omega⟩

/-- Device `d`'s part of the product's entry `(r, l)`. -/
def devPart (d : Dev nD) (r l : Fin 512) : EReal := ∑ k : Fin 256, A d (ix2 r k) * B d (ix2 k l)

theorem slotIdx_ix (h : Fin 2) (x : Fin 8) (r : Fin 64) (l : Fin 256) : slotIdx h x (ix4 (0 : Fin 1) (0 : Fin 1) r l) = ix4 h x r l := by
  funext a; fin_cases a <;> rfl
theorem inSlot_ix (h : Fin 2) (x : Fin 8) (r : Fin 64) (l : Fin 256) : inSlot (ix4 h x r l) = ix4 (0 : Fin 1) (0 : Fin 1) r l := by
  funext a; fin_cases a <;> rfl
theorem halfIdx_ix (h : Fin 2) (x : Fin 8) (r : Fin 64) (l : Fin 256) : halfIdx h (ix4 (0 : Fin 1) x r l) = ix4 h x r l := by
  funext a; fin_cases a <;> rfl
theorem inHalf_ix (h : Fin 2) (x : Fin 8) (r : Fin 64) (l : Fin 256) : inHalf (ix4 h x r l) = ix4 (0 : Fin 1) x r l := by
  funext a; fin_cases a <;> rfl

set_option maxRecDepth 16384 in
theorem part0_at (c : Dev nD) (x : Fin 8) (r : Fin 64) (l : Fin 256) :
    k0_pay3 (word c) (k0_pay1 (A c)) (B c) (ix4 (0 : Fin 1) x r l) = devPart A B c (rowOf (peer c x) r) (colOf 0 l) := by
  unfold k0_pay3
  rw [pay2_eq]
  pointwise [placed, k0_pay1]
  have e : (⟨l.val, by have := l.isLt; omega⟩ : Fin 512) = colOf 0 l := Fin.ext (by simp [colOf])
  rw [e]
  rfl

set_option maxRecDepth 16384 in
theorem part1_at (c : Dev nD) (x : Fin 8) (r : Fin 64) (l : Fin 256) :
    k0_pay4 (k0_pay2 (word c) (k0_pay1 (A c)) (B c)) (ix4 (0 : Fin 1) x r l) = devPart A B c (rowOf (peer c x) r) (colOf 1 l) := by
  rw [pay2_eq]
  pointwise [placed, k0_pay1, k0_pay4]
  rfl

/-- The partial products. -/
theorem partF_at (c : Dev nD) (h : Fin 2) (x : Fin 8) (r : Fin 64) (l : Fin 256) :
    partF A B c (ix4 h x r l) = devPart A B c (rowOf (peer c x) r) (colOf h l) := by
  unfold partF
  rw [inHalf_ix]
  by_cases hh : h = 0
  · subst hh
    exact (if_pos rfl).trans (part0_at A B c x r l)
  · have h1 : h = 1 := by omega
    subst h1
    exact (if_neg (by show ¬ (1 : Fin 2).val = 0; decide)).trans (part1_at A B c x r l)

/-- What is received are the other devices' parts of the device's own row block. -/
theorem rsF_value (c : Dev nD) (h : Fin 2) (x : Fin 8) (r : Fin 64) (l : Fin 256) :
    rsF A B c (ix4 h x r l) = devPart A B (peer c x) (rowOf c r) (colOf h l) := by
  have e := partF_at A B (peer c x) h x r l
  rw [peer_peer] at e
  exact e

theorem own_at (c : Dev nD) (h : Fin 2) (r : Fin 64) (l : Fin 256) :
    partF A B c (ix4 h 0 r l) = devPart A B c (rowOf c r) (colOf h l) := by
  rw [partF_at, peer_zero]

/-- An entry of the product: the devices' parts together. -/
def total (r l : Fin 512) : EReal := ∑ d : Dev nD, devPart A B d r l

theorem peer_bijective (c : Dev nD) : Function.Bijective (peer c) := by
  refine (Finite.injective_iff_bijective).mp ?_
  intro x y; revert c x y; decide

/-- The eight parts in the order in which the body adds them. -/
theorem sum_parts (p : Dev nD → EReal) (c : Dev nD) :
    p c + p (peer c 4) + p (peer c 3) + p (peer c 1) + p (peer c 7) + p (peer c 5) + p (peer c 2) + p (peer c 6) = ∑ d : Dev nD, p d := by
  refine Eq.trans ?_ ((peer_bijective c).sum_comp p)
  rw [Fin.sum_univ_eight, peer_zero]
  ac_rfl

/-- The finished value of a sum. -/
def finished (z : EReal) : EReal :=
  Ideal.ofBits .f32 0x3F000000#32 * z * (1 + Ideal.tanh (Ideal.ofBits .f32 0x3F4C422A#32 * (z + Ideal.ofBits .f32 0x3D372713#32 * z * z * z)))

/-- The sum of the eight parts as the body adds them. -/
def added (c : Dev nD) (h : Fin 2) (r : Fin 64) (l : Fin 256) : EReal :=
  partF A B c (ix4 h 0 r l) + rsF A B c (ix4 h 4 r l) + rsF A B c (ix4 h 3 r l) + rsF A B c (ix4 h 1 r l) + rsF A B c (ix4 h 7 r l)
    + rsF A B c (ix4 h 5 r l) + rsF A B c (ix4 h 2 r l) + rsF A B c (ix4 h 6 r l)

theorem added_eq (c : Dev nD) (h : Fin 2) (r : Fin 64) (l : Fin 256) : added A B c h r l = total A B (rowOf c r) (colOf h l) := by
  unfold added
  rw [own_at, rsF_value, rsF_value, rsF_value, rsF_value, rsF_value, rsF_value, rsF_value]
  exact sum_parts (fun d => devPart A B d (rowOf c r) (colOf h l)) c

set_option maxRecDepth 16384 in
theorem gel0_at (c : Dev nD) (r : Fin 64) (l : Fin 256) :
    gel0 A B c (ix4 (0 : Fin 1) (0 : Fin 1) r l) = finished (added A B c 0 r l) := by
  pointwise [gel0, k0_pay5, k0_pay6, k0_pay7, k0_pay8, k0_pay9, k0_pay10, slotv, slotIdx_ix]
  rfl

set_option maxRecDepth 16384 in
theorem gel1_at (c : Dev nD) (r : Fin 64) (l : Fin 256) :
    gel1 A B c (ix4 (0 : Fin 1) (0 : Fin 1) r l) = finished (added A B c 1 r l) := by
  pointwise [gel1, acc1, k0_pay11, k0_pay12, k0_pay13, k0_pay14, k0_pay15, k0_pay16, k0_pay17, k0_pay18, k0_pay19, slotv, slotIdx_ix]
  rfl

/-- The finished row block of a device. -/
theorem gel_at (c : Dev nD) (h : Fin 2) (r : Fin 64) (l : Fin 256) :
    gel A B c h (ix4 (0 : Fin 1) (0 : Fin 1) r l) = finished (total A B (rowOf c r) (colOf h l)) := by
  rw [← added_eq]
  unfold gel
  by_cases hh : h = 0
  · subst hh
    exact (congrFun (if_pos rfl) _).trans (gel0_at A B c r l)
  · have h1 : h = 1 := by omega
    subst h1
    exact (congrFun (if_neg (by decide)) _).trans (gel1_at A B c r l)

/-- The row block that a device holds after the second exchange. -/
theorem agF_value (c : Dev nD) (h : Fin 2) (x : Fin 8) (r : Fin 64) (l : Fin 256) :
    agF A B c (ix4 h x r l) = finished (total A B (rowOf (peer c x) r) (colOf h l)) := by
  rw [← gel_at, ← inSlot_ix h x r l]
  rfl

theorem peer_twice (c : Dev nD) (j : Fin 8) : peer c (peer c j) = j := by revert c j; decide

theorem rowOf_div (i : Fin 512) (h1 h2) : rowOf ⟨i.val / 64, h1⟩ ⟨i.val % 64, h2⟩ = i := Fin.ext (Nat.div_add_mod' i.val 64)

/-- A half of the result. -/
theorem half_at (c : Dev nD) (h : Fin 2) (i : Fin 512) (l : Fin 256) :
    shapeCast S512x256 (placed (peer c) (shapeCast S8x64x256 (halfv (agF A B c) h) shapeCasts_S1x8x64x256_S8x64x256)) shapeCasts_S8x64x256_S512x256 (ix2 i l)
      = finished (total A B i (colOf h l)) := by
  pointwise [placed, halfv, halfIdx_ix]
  rw [agF_value, peer_twice, rowOf_div]

/-- The result of every device, entry by entry. -/
theorem outF_at (c : Dev nD) (i k : Fin 512) : outF A B c (ix2 i k) = finished (total A B i k) := by
  by_cases hk : k.val < 256
  · have e : colLo (ix2 i k) hk = ix2 i (⟨k.val, hk⟩ : Fin 256) := by funext a; fin_cases a <;> rfl
    refine (dif_pos hk).trans ?_
    unfold outLo
    rw [pay20_eq, e, half_at]
    exact congrArg (fun k => finished (total A B i k)) (Fin.ext (by simp [colOf]))
  · have hlt : k.val - 256 < 256 := by have := k.isLt; omega
    have e : colHi (ix2 i k) = ix2 i (⟨k.val - 256, hlt⟩ : Fin 256) := by funext a; fin_cases a <;> rfl
    refine (dif_neg hk).trans ?_
    unfold outHi
    rw [pay22_eq, e, half_at]
    exact congrArg (fun k => finished (total A B i k)) (Fin.ext (by show 1 * 256 + (k.val - 256) = k.val; omega))

end Cert.XorProof

end
-- ==== Proof.Result.lean ====
/-
# The result array and the reference's result

The result array of every device ends with the finished entries of the whole product, and so does the reference's.
-/
module

public import proofs.«01_k».proof.Defs
public import proofs.«01_k».proof.Proof.Value
public import proofs.«01_k».proof.Proof.Launch
public import proofs.«01_k».proof.Proof.Gen.ReferenceIdeal.Run
public import Idealize.ShloMosaic.Lib.Pointwise

@[expose] public section

noncomputable section

namespace Cert.XorProof

open Cert.KernelIdeal Cert.KernelIdeal.Gen
open Idealize.ShloMosaic Idealize.ShloMosaic.TcCoe

section Arrays

variable {F : FTy → Type} [FloatOps F]
variable (m : (ℓ : Loc nD τ sig) → Buf (Elt F) ℓ) (ρ : Dev nD → PrngReg)

/-- The only block of each operand is the whole operand; -/
theorem emb_a (i : S512x256.Idx) : (win0_0.blk t0_0).view.emb i = i := by
  funext a; apply Fin.ext; fin_cases a
  · show 0 + 1 * (i 0).val = (i 0).val; omega
  · show 0 + 1 * (i 1).val = (i 1).val; omega
theorem emb_b (i : S256x512.Idx) : (win0_1.blk t0_0).view.emb i = i := by
  funext a; apply Fin.ext; fin_cases a
  · show 0 + 1 * (i 0).val = (i 0).val; omega
  · show 0 + 1 * (i 1).val = (i 1).val; omega
/-- and the only block of the result is the whole result. -/
theorem emb_o (i : S512x512.Idx) : ((cfg0.win 2).blk t0_0).view.emb i = i := by
  funext a; apply Fin.ext; fin_cases a
  · show 0 + 1 * (i 0).val = (i 0).val; omega
  · show 0 + 1 * (i 1).val = (i 1).val; omega

theorem aIn_eq (c : Dev nD) : aIn m ρ c = m ((c : Thread nD τ).loc main_arg0) :=
  funext fun i => congrArg (m ((c : Thread nD τ).loc main_arg0)) (emb_a i)
theorem bIn_eq (c : Dev nD) : bIn m ρ c = m ((c : Thread nD τ).loc main_arg1) :=
  funext fun i => congrArg (m ((c : Thread nD τ).loc main_arg1)) (emb_b i)

theorem only (t : Fin cfg0.N) : t = t0_0 := Fin.ext (by have h : t.val < 1 := t.isLt; show t.val = 0; omega)

theorem flushed_eq (c : Dev nD) (t : Fin cfg0.N) :
    (dats m ρ 0 c).flushed 2 t = ((cfg0.win 2).blk t).view.read (Elt F) (result m ρ c) := by
  obtain rfl := only t
  have ha : (dats m ρ 0 c).after 2 t0_0 = result m ρ c := by dsimp only [dats]
  unfold Pipeline.Dat.flushed
  rw [ha]
  funext i
  exact congrArg (result m ρ c) (emb_o i).symm

theorem cover (i : S512x512.Idx) : ∃ t : Fin cfg0.N, (cfg0.win 2).flush t = true ∧ i ∈ ((cfg0.win 2).blk t).view.set :=
  ⟨t0_0, flush0_2 _, Finset.mem_map.mpr ⟨i, Finset.mem_univ _, emb_o i⟩⟩

/-- The result array of every device. -/
theorem finalA_o (c : Dev nD) : finalA m ρ c 2 = outF (fun d => m ((d : Thread nD τ).loc main_arg0)) (fun d => m ((d : Thread nD τ).loc main_arg1)) c := by
  refine ((dats m ρ 0 c).arrAt_eq_of_cover 2 (result m ρ c) (fun t _ => flushed_eq m ρ c t) cover).trans ?_
  show outF (aIn m ρ) (bIn m ρ) c = _
  rw [show aIn m ρ = _ from funext (aIn_eq m ρ), show bIn m ρ = _ from funext (bIn_eq m ρ)]

end Arrays

/-! ## The value, at exact arithmetic -/

/-- Column `k` of the left block of device `d`, in the whole left operand. -/
def inner (d : Dev nD) (k : Fin 256) : Fin 2048 := ⟨d.val * 256 + k.val, by have h : d.val < 8 := d.isLt; have := k.isLt; omega⟩

theorem idx_a (h : Layout.Tiles (⟨2, ![512, 256]⟩ : Shape) (⟨2, ![512, 2048]⟩ : Shape) 1 8) (d : Dev nD) (r : Fin 512) (k : Fin 256) :
    h.idx d (ix2 r k) = ix2 r (inner d k) := by
  funext a; apply Fin.ext; fin_cases a <;> rfl
theorem idx_b (h : Layout.Tiles (⟨2, ![256, 512]⟩ : Shape) (⟨2, ![2048, 512]⟩ : Shape) 0 8) (d : Dev nD) (k : Fin 256) (l : Fin 512) :
    h.idx d (ix2 k l) = ix2 (inner d k) l := by
  funext a; apply Fin.ext; fin_cases a <;> rfl

/-- An entry of the whole product. -/
def entry (a : (⟨2, ![512, 2048]⟩ : Shape).Idx → EReal) (b : (⟨2, ![2048, 512]⟩ : Shape).Idx → EReal) (r l : Fin 512) : EReal :=
  ∑ k : Fin 2048, a (ix2 r k) * b (ix2 k l)

theorem sum_inner (f : Fin 2048 → EReal) : ∑ d : Fin 8, ∑ k : Fin 256, f (inner d k) = ∑ k : Fin 2048, f k := by
  have e := (finProdFinEquiv (m := 8) (n := 256)).sum_comp f
  rw [Fintype.sum_prod_type] at e
  refine Eq.trans ?_ e
  refine Finset.sum_congr rfl fun d _ => Finset.sum_congr rfl fun k _ => congrArg f (Fin.ext ?_)
  show d.val * 256 + k.val = k.val + 256 * d.val
  omega

/-- The devices' parts make up the whole product. -/
theorem total_eq (a : (⟨2, ![512, 2048]⟩ : Shape).Idx → EReal) (b : (⟨2, ![2048, 512]⟩ : Shape).Idx → EReal)
    (A : Dev nD → Vec Ideal S512x256 .bf16) (B : Dev nD → Vec Ideal S256x512 .bf16)
    (hA : ∀ d : Dev nD, A d = Layout.block ⟨2, ![512, 256]⟩ ⟨2, ![512, 2048]⟩ 1 8 d a)
    (hB : ∀ d : Dev nD, B d = Layout.block ⟨2, ![256, 512]⟩ ⟨2, ![2048, 512]⟩ 0 8 d b) (r l : Fin 512) :
    total A B r l = entry a b r l := by
  unfold total entry devPart
  rw [← sum_inner]
  refine Finset.sum_congr rfl fun d _ => Finset.sum_congr rfl fun k _ => ?_
  rw [hA, hB, Layout.block_apply, Layout.block_apply, idx_a, idx_b]

/-- The finished entries of the whole product. -/
def whole (a : (⟨2, ![512, 2048]⟩ : Shape).Idx → EReal) (b : (⟨2, ![2048, 512]⟩ : Shape).Idx → EReal) :
    (⟨2, ![512, 512]⟩ : Shape).Idx → EReal := fun i => finished (entry a b (i 0) (i 1))

theorem outF_eq (a : (⟨2, ![512, 2048]⟩ : Shape).Idx → EReal) (b : (⟨2, ![2048, 512]⟩ : Shape).Idx → EReal)
    (A : Dev nD → Vec Ideal S512x256 .bf16) (B : Dev nD → Vec Ideal S256x512 .bf16)
    (hA : ∀ d : Dev nD, A d = Layout.block ⟨2, ![512, 256]⟩ ⟨2, ![512, 2048]⟩ 1 8 d a)
    (hB : ∀ d : Dev nD, B d = Layout.block ⟨2, ![256, 512]⟩ ⟨2, ![2048, 512]⟩ 0 8 d b) (c : Dev nD) :
    outF A B c = whole a b := by
  funext i
  idx_vars i
  rw [outF_at, total_eq a b A B hA hB]
  rfl

set_option maxRecDepth 16384 in
/-- The reference's run, its result by entries. -/
theorem run_reference (m : (ℓ : Loc Cert.ReferenceIdeal.nD Cert.ReferenceIdeal.τ Cert.ReferenceIdeal.sig) → Buf (Elt Ideal) ℓ)
    (ρ : Dev Cert.ReferenceIdeal.nD → PrngReg) :
    θ_run Cert.ReferenceIdeal.defs (onTc (τ := Cert.ReferenceIdeal.τ) (Cert.ReferenceIdeal.main (F := Ideal))) ⟨m, fun _ => 0, ρ⟩ fun r => ∀ c : Dev Cert.ReferenceIdeal.nD,
      r.2.mem ((c.tc : Thread Cert.ReferenceIdeal.nD Cert.ReferenceIdeal.τ).loc Cert.ReferenceIdeal.main_v16)
        = whole (m ((c.tc : Thread Cert.ReferenceIdeal.nD Cert.ReferenceIdeal.τ).loc Cert.ReferenceIdeal.main_arg0))
            (m ((c.tc : Thread Cert.ReferenceIdeal.nD Cert.ReferenceIdeal.τ).loc Cert.ReferenceIdeal.main_arg1))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1) := by
  refine (θ_run Cert.ReferenceIdeal.defs _ _).mono (fun r h c => ⟨(h c).1.trans ?_, (h c).2⟩) (Cert.ReferenceIdeal.Value.run (F := Ideal) m ρ)
  generalize m ((c.tc : Thread Cert.ReferenceIdeal.nD Cert.ReferenceIdeal.τ).loc Cert.ReferenceIdeal.main_arg0) = a
  generalize m ((c.tc : Thread Cert.ReferenceIdeal.nD Cert.ReferenceIdeal.τ).loc Cert.ReferenceIdeal.main_arg1) = b
  funext i
  idx_vars i
  pointwise
  rfl

end Cert.XorProof

end
-- ==== Proof.Texts.lean ====
/- The two printings of the kernel are one program over the machine's bits: their tables of bodies are equal. -/
module

public import proofs.«01_k».proof.Defs
public import proofs.«01_k».proof.Proof.Gen.Kernel
public import proofs.«01_k».proof.Proof.Gen.KernelIdeal

@[expose] public section

noncomputable section

namespace Cert.Texts

open Idealize.ShloMosaic Idealize.SL.Sem

attribute [local instance] Cert.Kernel.Gen.facts Cert.KernelIdeal.Gen.facts

set_option maxRecDepth 65536 in
theorem body_eq (p : Proc Cert.KernelIdeal.τ) (ℓ : Cert.KernelIdeal.Λ₀.Label) (a : Cert.KernelIdeal.Λ₀.Args ℓ) :
    Cert.Kernel.defs₀ (F := Bits) p ℓ a = Cert.KernelIdeal.defs₀ (F := Bits) p ℓ a := by
  cases p with
  | tc =>
    match ℓ, a with
    | (0 : Fin 1), (t, s) => rfl
  | scScalar _ => rfl
  | scVector _ _ => rfl

theorem defs₀_eq : Cert.Kernel.defs₀ (F := Bits) = Cert.KernelIdeal.defs₀ (F := Bits) :=
  funext fun p => funext fun ℓ => funext fun a => body_eq p ℓ a

set_option maxRecDepth 65536 in
/-- The tables of bodies of the two printings. -/
theorem defs_eq : Cert.Kernel.defs (F := Bits) = Cert.KernelIdeal.defs (F := Bits) :=
  congrArg (Pipeline.defs (Cert.KernelIdeal.pcfgs (F := Bits))) defs₀_eq

end Cert.Texts

end
-- ==== Proof.lean ====
/- The proof of the certificate's claim: the two frames of the kernel from the one run of the mesh (`Launch.lean`), the
   reference's frame from its run, and the value claim. -/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Launch
public import proofs.«01_k».proof.Proof.Result
public import proofs.«01_k».proof.Proof.Texts
public import Idealize.ShloMosaic.Adequacy
public import Idealize.ShloMosaic.Init

@[expose] public section

noncomputable section

namespace Cert.Proof

open Idealize.ShloMosaic Idealize.SL.Sem

section

open Cert.KernelIdeal

variable {F : FTy → Type} [FloatOps F]

/-- The frame of the kernel's text over any float values: the run of the mesh ends with both argument arrays unchanged
    on every device and every counter at zero. -/
theorem frame_any (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono
    (fun _ h => ⟨fun c => ⟨(h.1 c (0 : Fin 3)).trans (XorProof.finalA_a m ρ c), (h.1 c (1 : Fin 3)).trans (XorProof.finalA_b m ρ c)⟩, h.2⟩)
    (XorProof.run_main m ρ)

end

/-- The kernel's frame over the machine's bits. -/
theorem frame_kernel : Cert.quiescent_Kernel (hKernel := Cert.Kernel.Gen.facts) := fun m ρ _ => by
  have h := frame_any (F := Bits) m ρ
  rw [← Cert.Texts.defs_eq] at h
  exact h

/-- The frame of the kernel's text over the extended reals. -/
theorem frame_kernelIdeal : Cert.quiescent_KernelIdeal (hKernelIdeal := Cert.KernelIdeal.Gen.facts) := fun m ρ _ =>
  frame_any (F := Ideal) m ρ

/-- The reference's frame: its run leaves the arguments unchanged, and it declares no semaphore. -/
theorem frame_referenceIdeal : Cert.quiescent_ReferenceIdeal (hReferenceIdeal := Cert.ReferenceIdeal.Gen.facts) := fun m ρ _ =>
  (θ_run Cert.ReferenceIdeal.defs _ _).mono
    (fun _ h => ⟨fun c => ⟨(h c).2.1, (h c).2.2⟩, funext fun ⟨_, sm⟩ => by
      cases sm with
      | reg s => exact s.elim0
      | dma s => exact s.elim0⟩)
    (Cert.ReferenceIdeal.Value.run (F := Ideal) m ρ)

/-- The value claim: every device's result is the reference's result on the whole arrays. -/
theorem value : Cert.algebraic_KernelIdeal_ReferenceIdeal (hKernelIdeal := Cert.KernelIdeal.Gen.facts)
    (hReferenceIdeal := Cert.ReferenceIdeal.Gen.facts) := fun m ρ m' ρ' _ hm =>
  ⟨XorProof.whole _ _,
    (θ_run Cert.KernelIdeal.defs _ _).mono
      (fun _ h c => ⟨(h.1 c (2 : Fin 3)).trans ((XorProof.finalA_o m ρ c).trans
          (XorProof.outF_eq _ _ _ _ (fun d => (hm d).1) (fun d => (hm d).2) c)),
        (h.1 c (0 : Fin 3)).trans (XorProof.finalA_a m ρ c), (h.1 c (1 : Fin 3)).trans (XorProof.finalA_b m ρ c)⟩)
      (XorProof.run_main (F := Ideal) m ρ),
    (θ_run Cert.ReferenceIdeal.defs _ _).mono (fun _ h => h 0) (XorProof.run_reference m' ρ')⟩

/-- The certificate's claim. -/
theorem claim : Cert.Claim :=
  ⟨Cert.Kernel.Gen.facts, Cert.KernelIdeal.Gen.facts, Cert.ReferenceIdeal.Gen.facts, frame_kernel, frame_kernelIdeal,
    frame_referenceIdeal, trivial, value⟩

end Cert.Proof

end
